-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S1024x512 : Shape := ⟨2, ![1024, 512]⟩
abbrev S4x528x256 : Shape := ⟨3, ![4, 528, 256]⟩
abbrev S3 : Shape := ⟨1, ![3]⟩
abbrev S_ : Shape := ⟨0, ![]⟩
abbrev S512x512 : Shape := ⟨2, ![512, 512]⟩
abbrev S256x64 : Shape := ⟨2, ![256, 64]⟩
abbrev S512x64 : Shape := ⟨2, ![512, 64]⟩
abbrev S512x256 : Shape := ⟨2, ![512, 256]⟩
abbrev S256 : Shape := ⟨1, ![256]⟩
abbrev S1x256 : Shape := ⟨2, ![1, 256]⟩
abbrev S64x256 : Shape := ⟨2, ![64, 256]⟩
abbrev S1x64x256 : Shape := ⟨3, ![1, 64, 256]⟩
abbrev S1x1x256 : Shape := ⟨3, ![1, 1, 256]⟩
abbrev S1x2x256 : Shape := ⟨3, ![1, 2, 256]⟩
abbrev S1 : Shape := ⟨1, ![1]⟩
abbrev S1x528x256 : Shape := ⟨3, ![1, 528, 256]⟩
abbrev S528x256 : Shape := ⟨2, ![528, 256]⟩

abbrev nBuf : Space → Nat
  | .hbm => 10
  | .vmem => 8
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S512x768, .f32⟩
  | .hbm, ⟨6, _⟩ => ⟨S1024x512, .f32⟩
  | .hbm, ⟨7, _⟩ => ⟨S1024x512, .f32⟩
  | .hbm, ⟨8, _⟩ => ⟨S512x768, .f32⟩
  | .hbm, ⟨9, _⟩ => ⟨S2x256x768, .f32⟩
  | .local _ .vmem, ⟨0, _⟩ => ⟨S512x768, .f32⟩
  | .local _ .vmem, ⟨1, _⟩ => ⟨S768x512, .f32⟩
  | .local _ .vmem, ⟨2, _⟩ => ⟨S512x768, .f32⟩
  | .local _ .vmem, ⟨3, _⟩ => ⟨S1024x512, .f32⟩
  | .local _ .vmem, ⟨4, _⟩ => ⟨S1024x512, .f32⟩
  | .local _ .vmem, ⟨5, _⟩ => ⟨S512x768, .f32⟩
  | .local _ .vmem, ⟨6, _⟩ => ⟨S4x528x256, .bf16⟩
  | .local _ .vmem, ⟨7, _⟩ => ⟨S4x528x256, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_138 : BitVec 32 := 1#32
  let v258 : BitVec 32 := Scalar.muli v7 c1_i32_138
  let v259 : BitVec 32 := Scalar.addi c0_i32_139 v258
  v259.toNat
def k0_dev4 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_292 : BitVec 32 := 1#32
  let v508 : BitVec 32 := Scalar.muli v5 c1_i32_292
  let v509 : BitVec 32 := Scalar.addi c0_i32_293 v508
  v509.toNat
def k0_dev5 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_322 : BitVec 32 := 1#32
  let v534 : BitVec 32 := Scalar.muli v7 c1_i32_322
  let v535 : BitVec 32 := Scalar.addi c0_i32_323 v534
  v535.toNat
def k0_dev6 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_332 : BitVec 32 := 1#32
  let v544 : BitVec 32 := Scalar.muli v5 c1_i32_332
  let v545 : BitVec 32 := Scalar.addi c0_i32_333 v544
  v545.toNat
def k0_dev7 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_366 : BitVec 32 := 1#32
  let v832 : BitVec 32 := Scalar.muli v7 c1_i32_366
  let v833 : BitVec 32 := Scalar.addi c0_i32_367 v832
  v833.toNat
def k0_dev8 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_376 : BitVec 32 := 1#32
  let v842 : BitVec 32 := Scalar.muli v5 c1_i32_376
  let v843 : BitVec 32 := Scalar.addi c0_i32_377 v842
  v843.toNat
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x2048x8x64 : Shape := ⟨4, ![2, 2048, 8, 64]⟩
abbrev S512x768 : Shape := ⟨2, ![512, 768]⟩
abbrev S2x256x512 : Shape := ⟨3, ![2, 256, 512]⟩
abbrev S2x256x8x64 : Shape := ⟨4, ![2, 256, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 70
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x2048x8x64, .f32⟩
  | .hbm, ⟨3, _⟩ => ⟨S2x2048x8x64, .f32⟩
  | .hbm, ⟨4, _⟩ => ⟨S512x768, .f32⟩
  | .hbm, ⟨5, _⟩ => ⟨S2x256x512, .f32⟩
  | .hbm, ⟨6, _⟩ => ⟨S2x256x8x64, .f32⟩
  | .hbm, ⟨7, _⟩ => ⟨S_, .f32⟩
  | .hbm, ⟨8, _⟩ => ⟨S2x256x8x64, .f32⟩
  | .hbm, ⟨9, _⟩ => ⟨S_, .f32⟩
  | .hbm, ⟨10, _⟩ => ⟨S2x8x256x1, .f32⟩
  | .hbm, ⟨11, _⟩ => ⟨S_, .f32⟩
  | .hbm, ⟨12, _⟩ => ⟨S2x8x256x1, .f32⟩
  | .hbm, ⟨13, _⟩ => ⟨S2x1024x8x64, .f32⟩
  | .hbm, ⟨14, _⟩ => ⟨S2x1024x8x64, .f32⟩
  | .hbm, ⟨15, _⟩ => ⟨S2x8x256x1024, .f32⟩
  | .hbm, ⟨16, _⟩ => ⟨S_, .f32⟩
  | .hbm, ⟨17, _⟩ => ⟨S2x8x256x1024, .f32⟩
  | .hbm, ⟨18, _⟩ => ⟨S2x8x256x1024, .f32⟩
  | .hbm, ⟨19, _⟩ => ⟨S_, .f32⟩
  | .hbm, ⟨20, _⟩ => ⟨S2x8x256, .f32⟩
  | .hbm, ⟨21, _⟩ => ⟨S2x8x256x1, .f32⟩
  | .hbm, ⟨22, _⟩ => ⟨S2x8x256x1, .f32⟩
  | .hbm, ⟨23, _⟩ => ⟨S2x8x256x1, .f32⟩
  | .hbm, ⟨24, _⟩ => ⟨S2x8x256x1, .f32⟩
  | .hbm, ⟨25, _⟩ => ⟨S2x8x256x1024, .f32⟩
  | .hbm, ⟨26, _⟩ => ⟨S2x8x256x1024, .f32⟩
  | .hbm, ⟨27, _⟩ => ⟨S2x8x256x1024, .f32⟩
  | .hbm, ⟨28, _⟩ => ⟨S2x8x256x1, .f32⟩
  | .hbm, ⟨29, _⟩ => ⟨S_, .f32⟩
  | .hbm, ⟨30, _⟩ => ⟨S2x8x256, .f32⟩
  | .hbm, ⟨31, _⟩ => ⟨S2x8x256x1, .f32⟩
  | .hbm, ⟨32, _⟩ => ⟨S2x8x256x1, .f32⟩
  | .hbm, ⟨33, _⟩ => ⟨S2x256x8x1, .f32⟩
  | .hbm, ⟨34, _⟩ => ⟨S2x256x8x64, .f32⟩
  | .hbm, ⟨35, _⟩ => ⟨S2x256x8x64, .f32⟩
  | .hbm, ⟨36, _⟩ => ⟨S2x8x64x256, .f32⟩
  | .hbm, ⟨37, _⟩ => ⟨S2x256x8x64, .f32⟩
  | .hbm, ⟨38, _⟩ => ⟨S2x256x8x64, .f32⟩
  | .hbm, ⟨39, _⟩ => ⟨S2x1024x8x64, .f32⟩
  | .hbm, ⟨40, _⟩ => ⟨S2x1024x8x64, .f32⟩
  | .hbm, ⟨41, _⟩ => ⟨S2x8x256x1024, .f32⟩
  | .hbm, ⟨42, _⟩ => ⟨S_, .f32⟩
  | .hbm, ⟨43, _⟩ => ⟨S2x8x256x1024, .f32⟩
  | .hbm, ⟨44, _⟩ => ⟨S2x8x256x1024, .f32⟩
  | .hbm, ⟨45, _⟩ => ⟨S_, .f32⟩
  | .hbm, ⟨46, _⟩ => ⟨S2x8x256, .f32⟩
  | .hbm, ⟨47, _⟩ => ⟨S2x8x256x1, .f32⟩
  | .hbm, ⟨48, _⟩ => ⟨S2x8x256x1, .f32⟩
  | .hbm, ⟨49, _⟩ => ⟨S2x8x256x1, .f32⟩
  | .hbm, ⟨50, _⟩ => ⟨S2x8x256x1, .f32⟩
  | .hbm, ⟨51, _⟩ => ⟨S2x8x256x1024, .f32⟩
  | .hbm, ⟨52, _⟩ => ⟨S2x8x256x1024, .f32⟩
  | .hbm, ⟨53, _⟩ => ⟨S2x8x256x1024, .f32⟩
  | .hbm, ⟨54, _⟩ => ⟨S2x8x256x1, .f32⟩
  | .hbm, ⟨55, _⟩ => ⟨S_, .f32⟩
  | .hbm, ⟨56, _⟩ => ⟨S2x8x256, .f32⟩
  | .hbm, ⟨57, _⟩ => ⟨S2x8x256x1, .f32⟩
  | .hbm, ⟨58, _⟩ => ⟨S2x8x256x1, .f32⟩
  | .hbm, ⟨59, _⟩ => ⟨S2x256x8x1, .f32⟩
  | .hbm, ⟨60, _⟩ => ⟨S2x256x8x64, .f32⟩
  | .hbm, ⟨61, _⟩ => ⟨S2x256x8x64, .f32⟩
  | .hbm, ⟨62, _⟩ => ⟨S2x8x64x256, .f32⟩
  | .hbm, ⟨63, _⟩ => ⟨S2x256x8x64, .f32⟩
  | .hbm, ⟨64, _⟩ => ⟨S2x256x8x64, .f32⟩
  | .hbm, ⟨65, _⟩ => ⟨S2x256x8x1, .f32⟩
  | .hbm, ⟨66, _⟩ => ⟨S2x256x8x64, .f32⟩
  | .hbm, ⟨67, _⟩ => ⟨S2x256x8x64, .f32⟩
  | .hbm, ⟨68, _⟩ => ⟨S2x256x512, .f32⟩
  | .hbm, ⟨69, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Protocol.lean ====
/-
The protocol of the attention kernel on four devices in a ring.

Every device computes, for each of the two batches, a packed partial result (numerators, maxima and sums of its
own shard of keys), and the packed results travel round the ring: batch 0 to the right, batch 1 to the left,
three hops each. A buffer of four slots per batch holds the device's own packed result in slot 0 and what came
in over hop `k` in slot `k + 1`.

* Barrier cell of device `c`: one unit from each neighbour, waited for first of all. The neighbour to which `c`
  sends in ring `e` hands over, with its unit, slots 1, 2, 3 of its ring-`e` buffer and the fact that its three
  receive cells have been reached.
* Receive cell `(e, k)` of device `c`: one copy, by the neighbour before `c` in ring `e`; it hands over slot
  `k + 1` holding the packed result of the device `k + 1` places back.
* Send cell `(e, k)` of device `c`: `c`'s own copy; half the share of slot `k` comes back through it.

The packed results are a parameter `pk` here; what they are is the body's business.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.ValueIdxCore
public import Idealize.ShloMosaic.Lib.Tactic

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two duties at most per cell and round: they are named by `Bool`. -/
abbrev UB : Type := URounds (GSem nD τ sig) Bool
/-- The pipeline's copy of the rounds algebra beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- Where ring `e` sends: batch 0's ring (`true`) to the right, batch 1's (`false`) to the left. -/
abbrev tgt (e : Bool) (c : Dev nD) : Dev nD := match e with | true => nxt c | false => prv c
/-- Whom ring `e` receives from. -/
abbrev frm (e : Bool) (c : Dev nD) : Dev nD := match e with | true => prv c | false => nxt c

theorem frm_tgt (e : Bool) (c : Dev nD) : frm e (tgt e c) = c := by cases e; exacts [nxt_prv c, prv_nxt c]
theorem tgt_frm (e : Bool) (c : Dev nD) : tgt e (frm e c) = c := by cases e; exacts [prv_nxt c, nxt_prv c]

/-- The device `k` places back in ring `e`. -/
def src (e : Bool) : ℕ → Dev nD → Dev nD
  | 0, c => c
  | k + 1, c => src e k (frm e c)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The buffers and their slots -/

/-- The communication buffer of ring `e`. -/
abbrev bufM (e : Bool) : Memref sig .tc .vmem S4x528x256 .bf16 :=
  match e with | true => Memref.whole cc0_scratch0 | false => Memref.whole cc0_scratch1

theorem slot_inb (k : Fin 4) : ∀ a, (![k.val, 0, 0] : Fin 3 → Nat) a + S1x528x256.size a ≤ S4x528x256.size a := by
  revert k; decide

/-- The rectangle of slot `k`. -/
abbrev slotR (k : Fin 4) : Rect S4x528x256 := Rect.unit (s := S4x528x256) ![k.val, 0, 0] S1x528x256.size (slot_inb k)

/-- Slot `k` of ring `e`'s buffer, as the copies name it. -/
abbrev slotM (e : Bool) (k : Fin 4) : Memref sig .tc .vmem S528x256 .bf16 :=
  ((bufM e).slice (slotR k) (fun _ => rfl)).squeeze S528x256 squeezes_S1x528x256_S528x256

/-- Slot `k` of ring `e`'s buffer on device `c`, at share `q` and contents `f`. -/
def slotPts (e : Bool) (k : Fin 4) (q : PosShare TreeShare) (c : Dev nD)
    (f : Buf (Elt F) ((slotM e k).view.loc (c : Thread nD τ))) : sProp 𝕄 :=
  (slotM e k).view.loc (c : Thread nD τ) ↦[(slotM e k).view.set]{q} f

instance slotPts_storable (e : Bool) (k : Fin 4) (q : PosShare TreeShare) (c : Dev nD) (f) :
    BI.Storable (upEmb : UEmb _ 𝕄) (slotPts (F := F) e k q c f) := by unfold slotPts; infer_instance

/-- A packed result in every slot of ring `e`'s buffer. -/
def spread (e : Bool) (v : S528x256.Idx → Elt F .bf16) : (bufM e).view.ty.Contents (Elt F) :=
  match e with | true => fun i => v (ix2 (i 1) (i 2)) | false => fun i => v (ix2 (i 1) (i 2))

omit [FloatOps F] in
theorem read_spread (e : Bool) (v : S528x256.Idx → Elt F .bf16) (i : S4x528x256.Idx) :
    (bufM e).view.read (Elt F) (spread e v) i = v (ix2 (i 1) (i 2)) := by cases e <;> rfl

theorem squeeze_idx (x : S528x256.Idx) :
    Shape.reshapeEquiv (s := S1x528x256) squeezes_S1x528x256_S528x256.numel_eq x = Fin.cons ⟨0, Nat.one_pos⟩ x :=
  Shape.reshapeEquiv_cons_one (d := ![528, 256]) _ x

omit [FloatOps F] in
/-- What a slot reads is what the buffer reads in the slot's rows. -/
theorem read_slot (e : Bool) (k : Fin 4) (f : (bufM e).view.ty.Contents (Elt F)) (x : S528x256.Idx) :
    (slotM e k).view.read (Elt F) f x = (bufM e).view.read (Elt F) f (ix3 k (x 0) (x 1)) := by
  show (bufM e).view.read (Elt F) f ((slotR k).emb (Shape.reshapeEquiv (s := S1x528x256) squeezes_S1x528x256_S528x256.numel_eq x)) = _
  congr 1
  rw [squeeze_idx]
  funext a
  apply Fin.ext
  show (![k.val, 0, 0] : Fin 3 → Nat) a + 1 * _ = _
  fin_cases a
  · show k.val + 1 * 0 = k.val; omega
  · show 0 + 1 * (x 0).val = (x 0).val; omega
  · show 0 + 1 * (x 1).val = (x 1).val; omega

omit [FloatOps F] in
theorem read_slot_spread (e : Bool) (k : Fin 4) (v : S528x256.Idx → Elt F .bf16) :
    (slotM e k).view.read (Elt F) (spread e v) = v := by
  funext x
  rw [read_slot, read_spread]
  exact congrArg v (eq_ix2 x).symm

omit [FloatOps F] in
/-- Contents that read the same in a slot are the same resource there. -/
theorem slotPts_congr (e : Bool) (k : Fin 4) (q : PosShare TreeShare) (c : Dev nD)
    (f g : Buf (Elt F) ((slotM e k).view.loc (c : Thread nD τ)))
    (h : (slotM e k).view.read (Elt F) f = (slotM e k).view.read (Elt F) g) :
    (slotPts e k q c f : sProp 𝕄) = slotPts e k q c g := by
  unfold slotPts
  refine pointsTo_congr fun i hi => ?_
  obtain ⟨x, -, rfl⟩ := Finset.mem_map.mp hi
  have := congrFun h x
  rw [View.read_apply, View.read_apply] at this
  exact (cast_inj _).mp this

omit [FloatOps F] in
/-- What a copy of a slot lands. -/
theorem landing (e : Bool) (k k' : Fin 4) (c : Dev nD) (v : S528x256.Idx → Elt F .bf16)
    (fd : Buf (Elt F) ((slotM e k').view.loc (c : Thread nD τ))) :
    (slotPts e k' fullShare c ((slotM e k').view.write (Elt F) fd ((slotM e k).view.read (Elt F) (spread e v)) Finset.univ) : sProp 𝕄)
      = slotPts e k' fullShare c (spread e v) := by
  apply slotPts_congr
  rw [View.read_write_univ, read_slot_spread, read_slot_spread]

omit [FloatOps F] in
/-- A slot's full share is its two halves. -/
theorem slot_halves (e : Bool) (k : Fin 4) (c : Dev nD) (f) :
    (slotPts (F := F) e k fullShare c f : sProp 𝕄) ⊣⊢ iprop(slotPts e k fullShare.left c f ∗ slotPts e k fullShare.right c f) :=
  pointsTo_share (PosShare.mem_left_op_right fullShare)

theorem slot_set (e : Bool) (k : Fin 4) : (slotM e k).view.set = (slotR k).set.map (bufM e).view.emb := by
  show (((bufM e).view.slice (slotR k)).reshape _ _).set = _
  rw [View.set_reshape, View.set_slice]

theorem mem_slotR (k : Fin 4) (i : S4x528x256.Idx) : i ∈ (slotR k).set ↔ i 0 = k := by
  rw [Rect.mem_set_unit]
  constructor
  · intro h
    have h0 := h 0
    have h1 : k.val ≤ (i 0).val := h0.1
    have h2 : (i 0).val < k.val + 1 := h0.2
    exact Fin.ext (by omega)
  · intro h a
    have h1 : (i 1).val < 528 := (i 1).isLt
    have h2 : (i 2).val < 256 := (i 2).isLt
    fin_cases a
    · show k.val ≤ (i 0).val ∧ (i 0).val < k.val + 1
      rw [h]; omega
    · show 0 ≤ (i 1).val ∧ (i 1).val < 0 + 528; omega
    · show 0 ≤ (i 2).val ∧ (i 2).val < 0 + 256; omega

theorem slots_disjoint (e : Bool) {k k' : Fin 4} (h : k ≠ k') :
    Disjoint (slotM e k).view.set (slotM e k').view.set := by
  rw [slot_set, slot_set, Finset.disjoint_map, Finset.disjoint_left]
  intro i hi hi'
  exact h (((mem_slotR k i).mp hi).symm.trans ((mem_slotR k' i).mp hi'))

theorem slots_cover (e : Bool) : (bufM e).view.set = (Finset.univ : Finset (Fin 4)).biUnion fun k => (slotM e k).view.set := by
  ext i
  constructor
  · intro hi
    obtain ⟨x, -, rfl⟩ := Finset.mem_map.mp hi
    refine Finset.mem_biUnion.mpr ⟨x 0, Finset.mem_univ _, ?_⟩
    exact (slot_set e (x 0)).symm ▸ Finset.mem_map_of_mem (bufM e).view.emb ((mem_slotR (x 0) x).mpr rfl)
  · intro hi
    obtain ⟨k, -, hi⟩ := Finset.mem_biUnion.mp hi
    rw [slot_set] at hi
    exact Finset.map_subset_map.mpr (Finset.subset_univ _) hi

omit [FloatOps F] in
/-- The whole buffer is its four slots. -/
theorem slots_split (e : Bool) (c : Dev nD) (f : Buf (Elt F) ((bufM e).view.loc (c : Thread nD τ))) :
    ((bufM e).view.loc (c : Thread nD τ) ↦[(bufM e).view.set]{fullShare} f : sProp 𝕄)
      ⊢ iprop(slotPts e 0 fullShare c f ∗ slotPts e 1 fullShare c f ∗ slotPts e 2 fullShare c f ∗ slotPts e 3 fullShare c f) := by
  rw [slots_cover e, pointsTo_biUnion Finset.univ _ (fun k _ k' _ h => slots_disjoint e h),
    bigSep_univ_eq_bigSepL [0, 1, 2, 3] (by decide) (by decide), bigSepL_cons_cons, bigSepL_cons_cons, bigSepL_cons_cons, bigSepL_singleton]
  exact .rfl

omit [FloatOps F] in
/-- The four slots, at whatever contents, are the whole buffer at some contents. -/
theorem slots_join (e : Bool) (c : Dev nD) (f : Fin 4 → Buf (Elt F) ((bufM e).view.loc (c : Thread nD τ))) :
    iprop(slotPts e 0 fullShare c (f 0) ∗ slotPts e 1 fullShare c (f 1) ∗ slotPts e 2 fullShare c (f 2) ∗ slotPts e 3 fullShare c (f 3))
      ⊢ (iprop(∃ g : Buf (Elt F) ((bufM e).view.loc (c : Thread nD τ)),
          (bufM e).view.loc (c : Thread nD τ) ↦[(bufM e).view.set]{fullShare} g) : sProp 𝕄) := by
  have key := pointsTo_biUnion_join (Ix := Unit) (Name := ℕ) (U := UU) (Lvl := ℕ) (q := fullShare) (ℓ := (bufM e).view.loc (c : Thread nD τ))
    Finset.univ (fun k : Fin 4 => (slotM e k).view.set) f (f 0) (fun k _ k' _ h => slots_disjoint e h)
  rw [bigSep_univ_eq_bigSepL [0, 1, 2, 3] (by decide) (by decide), bigSepL_cons_cons, bigSepL_cons_cons, bigSepL_cons_cons, bigSepL_singleton] at key
  refine (show _ ⊢ _ from key).trans ?_
  iintro ⟨%g, -, H⟩
  iexists g
  rw [slots_cover e]
  iexact H

/-! ## The semaphores and their cells -/

/-- The barrier semaphore. -/
abbrev barS : Sem sig := (SemArray.scalar (sig.barrier 0 rfl) : Sems sig S_).sem

theorem sem_lt (e : Bool) (k : Fin 3) : (bif e then 6 else 12) + k.val < 18 ∧ (bif e then 9 else 15) + k.val < 18 := by
  revert e k; decide

/-- The send and the receive semaphore of hop `k` in ring `e`. -/
abbrev sS (e : Bool) (k : Fin 3) : DmaSem sig := ⟨(bif e then 6 else 12) + k.val, (sem_lt e k).1⟩
abbrev rS (e : Bool) (k : Fin 3) : DmaSem sig := ⟨(bif e then 9 else 15) + k.val, (sem_lt e k).2⟩

abbrev barCell (c : Dev nD) : GSem nD τ sig := ((c : Thread nD τ), .reg barS)
abbrev sCell (e : Bool) (k : Fin 3) (c : Dev nD) : GSem nD τ sig := ((c : Thread nD τ), .dma (sS e k))
abbrev rCell (e : Bool) (k : Fin 3) (c : Dev nD) : GSem nD τ sig := ((c : Thread nD τ), .dma (rS e k))

/-- Reading a semaphore's number back: is it the kernel's own, its ring, whether it is a receive semaphore, its hop. -/
def isX (s : DmaSem sig) : Bool := decide (6 ≤ s.val)
def ringOf (s : DmaSem sig) : Bool := decide (s.val < 12)
def isRecv (s : DmaSem sig) : Bool := decide (3 ≤ s.val % 6)
set_option backward.proofsInPublic true in
def hopOf (s : DmaSem sig) : Fin 3 := ⟨s.val % 3, Nat.mod_lt _ (by decide)⟩

theorem isX_s (e : Bool) (k : Fin 3) : isX (sS e k) = true := by revert e k; decide
theorem isX_r (e : Bool) (k : Fin 3) : isX (rS e k) = true := by revert e k; decide
theorem ringOf_s (e : Bool) (k : Fin 3) : ringOf (sS e k) = e := by revert e k; decide
theorem ringOf_r (e : Bool) (k : Fin 3) : ringOf (rS e k) = e := by revert e k; decide
theorem isRecv_s (e : Bool) (k : Fin 3) : isRecv (sS e k) = false := by revert e k; decide
theorem isRecv_r (e : Bool) (k : Fin 3) : isRecv (rS e k) = true := by revert e k; decide
theorem hopOf_s (e : Bool) (k : Fin 3) : hopOf (sS e k) = k := by revert e k; decide
theorem hopOf_r (e : Bool) (k : Fin 3) : hopOf (rS e k) = k := by revert e k; decide

/-- What one copy of a slot credits. -/
abbrev N : ℕ := (slotM true 0).view.dmaCredit
theorem N_pos : 0 < N := View.dmaCredit_pos _ (by decide)
theorem credit_eq (e : Bool) (k : Fin 4) : (slotM e k).view.dmaCredit = N := by
  cases e <;> rfl

/-! ## The schedule -/

variable (pk : Bool → Dev nD → S528x256.Idx → Elt F .bf16)

/-- Handed to device `c` with ring `e`'s unit of its barrier cell, by the neighbour it sends to in that ring. -/
def barPay (e : Bool) (c : Dev nD) : sProp 𝕄 :=
  iprop((∃ f, slotPts e 1 fullShare (tgt e c) f) ∗ (∃ f, slotPts e 2 fullShare (tgt e c) f) ∗ (∃ f, slotPts e 3 fullShare (tgt e c) f)
    ∗ reached ER (rCell e 0 (tgt e c)) 0 ∗ reached ER (rCell e 1 (tgt e c)) 0 ∗ reached ER (rCell e 2 (tgt e c)) 0)
/-- Landed in device `c` over hop `k`. -/
def recvPay (e : Bool) (k : Fin 3) (c : Dev nD) : sProp 𝕄 := slotPts e k.succ fullShare c (spread e (pk e (src e (k.val + 1) c)))
/-- Given back to device `c` by its own copy of hop `k`. -/
def sendPay (e : Bool) (k : Fin 3) (c : Dev nD) : sProp 𝕄 := slotPts e k.castSucc fullShare.left c (spread e (pk e (src e k.val c)))

def ringRd : Rounds.Schedule (GSem nD τ sig) Bool 𝕄 where
  duties g r :=
    if r = 0 ∧ g.1.2 = .tc then
      match g.2 with
      | .reg s => if s = barS then Finset.univ else ∅
      | .dma s => if isX s then {false} else ∅
    else ∅
  unitless _ := False
  amount g _ _ := match g.2 with | .reg _ => 1 | .dma _ => N
  payload g _ d := match g.2 with
    | .reg _ => barPay d g.1.1
    | .dma s => if isRecv s then recvPay pk (ringOf s) (hopOf s) g.1.1 else sendPay pk (ringOf s) (hopOf s) g.1.1
  amount_pos g _ _ _ := by
    rcases g with ⟨_, _ | _⟩
    · exact Nat.one_pos
    · exact N_pos

instance ringRd_payload_storable (g : GSem nD τ sig) (r : ℕ) (d : Bool) :
    BI.Storable (upEmb : UEmb _ 𝕄) ((ringRd pk).payload g r d) := by
  rcases g with ⟨t, s | s⟩
  · show BI.Storable upEmb (barPay d t.1)
    unfold barPay; infer_instance
  · show BI.Storable upEmb (if isRecv s then recvPay pk (ringOf s) (hopOf s) t.1 else sendPay pk (ringOf s) (hopOf s) t.1)
    unfold recvPay sendPay
    split <;> infer_instance

section Sched
variable (c : Dev nD)

omit [FloatOps F] in
theorem duties_bar : (ringRd pk).duties (barCell c) 0 = Finset.univ := by
  dsimp only [ringRd]; rw [if_pos ⟨rfl, rfl⟩, if_pos rfl]
omit [FloatOps F] in
theorem duties_x (s : DmaSem sig) (h : isX s = true) : (ringRd pk).duties ((c : Thread nD τ), .dma s) 0 = {false} := by
  dsimp only [ringRd]; rw [if_pos ⟨rfl, rfl⟩, if_pos h]
omit [FloatOps F] in
theorem duties_later (g : GSem nD τ sig) : ∀ r, 1 ≤ r → (ringRd pk).duties g r = ∅ :=
  fun r hr => by dsimp only [ringRd]; rw [if_neg fun h => by omega]

omit [FloatOps F] in
theorem amount_bar (d : Bool) : (ringRd pk).amount (barCell c) 0 d = 1 := rfl
omit [FloatOps F] in
theorem amount_x (s : DmaSem sig) (d : Bool) : (ringRd pk).amount ((c : Thread nD τ), .dma s) 0 d = N := rfl

omit [FloatOps F] in
theorem expect_bar : (ringRd pk).expect (barCell c) 0 = 2 := by
  unfold Schedule.expect Schedule.amountOf
  rw [duties_bar, Finset.sum_congr rfl fun d _ => amount_bar pk c d, Finset.sum_const, Finset.card_univ, Fintype.card_bool, smul_eq_mul]
omit [FloatOps F] in
theorem expect_x (s : DmaSem sig) (h : isX s = true) : (ringRd pk).expect ((c : Thread nD τ), .dma s) 0 = N := by
  unfold Schedule.expect Schedule.amountOf; rw [duties_x pk c s h, Finset.sum_singleton, amount_x]

omit [FloatOps F] in
theorem payload_bar (d : Bool) : (ringRd pk).payload (barCell c) 0 d = barPay d c := rfl
omit [FloatOps F] in
theorem payload_r (e : Bool) (k : Fin 3) (d : Bool) : (ringRd pk).payload (rCell e k c) 0 d = recvPay pk e k c := by
  show (if isRecv (rS e k) then recvPay pk (ringOf (rS e k)) (hopOf (rS e k)) c else sendPay pk (ringOf (rS e k)) (hopOf (rS e k)) c) = _
  rw [if_pos (isRecv_r e k), ringOf_r, hopOf_r]
omit [FloatOps F] in
theorem payload_s (e : Bool) (k : Fin 3) (d : Bool) : (ringRd pk).payload (sCell e k c) 0 d = sendPay pk e k c := by
  show (if isRecv (sS e k) then recvPay pk (ringOf (sS e k)) (hopOf (sS e k)) c else sendPay pk (ringOf (sS e k)) (hopOf (sS e k)) c) = _
  rw [if_neg (by rw [isRecv_s]; exact Bool.false_ne_true), ringOf_s, hopOf_s]

omit [FloatOps F] in
theorem rest_bar : bigSep ((ringRd pk).duties (barCell c) 0 \ ∅) (fun d => (ringRd pk).payload (barCell c) 0 d)
    = iprop(barPay (F := F) true c ∗ barPay false c) := by
  rw [Finset.sdiff_empty, duties_bar, bigSep_univ_eq_bigSepL [true, false] (by decide) (by decide), bigSepL_cons_cons, bigSepL_singleton,
    payload_bar, payload_bar]
  rfl
omit [FloatOps F] in
theorem rest_x (s : DmaSem sig) (h : isX s = true) :
    bigSep ((ringRd pk).duties ((c : Thread nD τ), .dma s) 0 \ ∅) (fun d => (ringRd pk).payload ((c : Thread nD τ), .dma s) 0 d)
      = (ringRd pk).payload ((c : Thread nD τ), .dma s) 0 false := by
  rw [Finset.sdiff_empty, duties_x pk c s h, bigSep_singleton]

end Sched

/-! ## What each device owes at launch; the levels -/

/-- The sum of a list of credits, the head's outermost. -/
def oSum : List (GSem nD τ sig × ℕ) → CellTallies nD τ sig Unit
  | [] => 0
  | p :: l => oSum l + tallyAt p.1 () p.2

theorem oSum_pos {l : List (GSem nD τ sig × ℕ)} {g : GSem nD τ sig} {u : Unit} (h : 0 < oSum l g u) : ∃ p ∈ l, g = p.1 := by
  induction l with
  | nil => exact absurd h (Nat.lt_irrefl 0)
  | cons p l ih =>
    unfold oSum at h
    rw [Pi.add_apply, Finsupp.add_apply, tallyAt_apply] at h
    by_cases hp : g = p.1 ∧ u = ()
    · exact ⟨p, List.mem_cons_self, hp.1⟩
    · rw [if_neg hp, Nat.add_zero] at h
      obtain ⟨q, hq, e⟩ := ih h
      exact ⟨q, List.mem_cons_of_mem _ hq, e⟩

/-- What device `c` has to pay, in the order of its program: the two barrier units, then the copies. -/
def todo (c : Dev nD) : List (GSem nD τ sig × ℕ) :=
  [(barCell (prv c), 1), (barCell (nxt c), 1), (rCell true 0 (nxt c), N), (rCell false 0 (prv c), N),
   (rCell true 1 (nxt c), N), (rCell false 1 (prv c), N), (rCell true 2 (nxt c), N), (rCell false 2 (prv c), N)]

/-- What is left to pay after the first `n` payments. -/
def owed (n : ℕ) (c : Dev nD) : CellTallies nD τ sig Unit := oSum ((todo c).drop n)

def L (g : GSem nD τ sig) : Finset Unit := if g.1.2 = .tc then {()} else ∅
/-- Barrier cells at 1, the receive cells of hop `k` at `k + 2`, everything else at 0. -/
def lv (g : GSem nD τ sig) (_ : Unit) : ℕ := match g.2 with
  | .reg _ => 1
  | .dma s => if isX s && isRecv s then (hopOf s).val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_r (e : Bool) (k : Fin 3) (c : Dev nD) : lv (rCell e k c) () = k.val + 2 := by
  show (if isX (rS e k) && isRecv (rS e k) then (hopOf (rS e k)).val + 2 else 0) = _
  rw [isX_r, isRecv_r, hopOf_r]; rfl

omit [FloatOps F] in
theorem mayWait_of (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (oSum l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := oSum_pos hg
      unfold L; rw [if_pos (h p hp).1]; exact Finset.mem_singleton_self _)
    (fun p hp => by rw [Finset.mem_singleton.mp hp])
    (fun g u hg => by
      obtain ⟨p, hp, rfl⟩ := oSum_pos hg
      exact (h p hp).2)

omit [FloatOps F] in
/-- At its barrier wait a device owes the six copies. -/
theorem mayWait_bar (c : Dev nD) : (levAts L lv : sProp 𝕄) ⊢ MayWait (c : Thread nD τ) (.reg barS) () (owed 2 c) :=
  mayWait_of c _ _ (by
    intro p hp
    simp only [todo, List.drop_succ_cons, List.drop_zero, List.mem_cons, List.not_mem_nil, or_false] at hp
    rw [lv_bar]
    rcases hp with rfl | rfl | rfl | rfl | rfl | rfl <;> refine ⟨rfl, ?_⟩ <;> rw [lv_r] <;> decide)
omit [FloatOps F] in
/-- At a wait for hop 0 it owes the copies of hops 1 and 2, -/
theorem mayWait_r0 (e : Bool) (c : Dev nD) : (levAts L lv : sProp 𝕄) ⊢ MayWait (c : Thread nD τ) (.dma (rS e 0)) () (owed 4 c) :=
  mayWait_of c _ _ (by
    intro p hp
    simp only [todo, List.drop_succ_cons, List.drop_zero, List.mem_cons, List.not_mem_nil, or_false] at hp
    rw [lv_r]
    rcases hp with rfl | rfl | rfl | rfl <;> refine ⟨rfl, ?_⟩ <;> rw [lv_r] <;> decide)
omit [FloatOps F] in
/-- and at a wait for hop 1 those of hop 2. -/
theorem mayWait_r1 (e : Bool) (c : Dev nD) : (levAts L lv : sProp 𝕄) ⊢ MayWait (c : Thread nD τ) (.dma (rS e 1)) () (owed 6 c) :=
  mayWait_of c _ _ (by
    intro p hp
    simp only [todo, List.drop_succ_cons, List.drop_zero, List.mem_cons, List.not_mem_nil, or_false] at hp
    rw [lv_r]
    rcases hp with rfl | rfl <;> refine ⟨rfl, ?_⟩ <;> rw [lv_r] <;> decide)
omit [FloatOps F] in
/-- The pipeline's own waits are below everything owed. -/
theorem mayWait_stage (c : Dev nD) (s : DmaSem sig) (hs : isX s = false) (n : ℕ) :
    (levAts L lv : sProp 𝕄) ⊢ MayWait (c : Thread nD τ) (.dma s) () (owed n c) :=
  mayWait_of c _ _ (by
    intro p hp
    have hp := List.mem_of_mem_drop hp
    have h0 : lv ((c : Thread nD τ), .dma s) () = 0 := by
      show (if isX s && isRecv s then (hopOf s).val + 2 else 0) = 0
      rw [hs]; rfl
    rw [h0]
    simp only [todo, List.mem_cons, List.not_mem_nil, or_false] at hp
    rcases hp with rfl | rfl | rfl | rfl | rfl | rfl | rfl | rfl <;> refine ⟨rfl, ?_⟩ <;> first | (rw [lv_bar]; decide) | (rw [lv_r]; decide))

theorem owed_8 (c : Dev nD) : owed 8 c = 0 := rfl

/-- Which payment the copy of hop `k` in ring `e` is. -/
def payNo (e : Bool) (k : Fin 3) : ℕ := 2 + 2 * k.val + bif e then 0 else 1

theorem owed_step (e : Bool) (k : Fin 3) (c : Dev nD) :
    owed (payNo e k) c = owed (payNo e k + 1) c + tallyAt (rCell e k (tgt e c)) () N := by
  cases e <;> fin_cases k <;> rfl

end Cert.KernelIdealProof

end
-- ==== Proof.Vals.lean ====
/-
The values of the attention kernel: per device, batch and head the partial softmax over the device's own keys, the
packed form in which it travels, and the merges, each written with the operations the kernel performs.
Rings name batches: `true` is batch 0, which travels to the right, `false` batch 1, which travels to the left.
-/
module

public import proofs.«01_k».proof.Proof.Protocol

@[expose] public section

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]

/-- The arrays the kernel reads, device by device: the activations, the query and the output weights, the device's
    own keys and values (both batches' rows stacked, the heads side by side). -/
structure Ins (F : FTy → Type) where
  x : Dev nD → Vec F S512x768 .f32
  wq : Dev nD → Vec F S768x512 .f32
  wo : Dev nD → Vec F S512x768 .f32
  k : Dev nD → Vec F S1024x512 .f32
  v : Dev nD → Vec F S1024x512 .f32

/-- Where a batch's rows begin among the queries, and among the keys and values. -/
abbrev qOff (e : Bool) : ℕ := match e with | true => 0 | false => 256
abbrev kOff (e : Bool) : ℕ := match e with | true => 0 | false => 512

theorem q_slices (e : Bool) (h : Fin 8) : S512x512.Slices ![qOff e, 64 * h.val] S256x64 := by
  revert e h; decide
theorem oR_slices (h : Fin 8) : S528x256.Slices ![64 * h.val, 0] S64x256 := by revert h; decide
theorem mR_slices (h : Fin 8) : S528x256.Slices ![512 + h.val, 0] S1x256 := by revert h; decide
theorem lR_slices (h : Fin 8) : S528x256.Slices ![520 + h.val, 0] S1x256 := by revert h; decide

theorem kOff_lt (e : Bool) (j : Fin 512) : kOff e + j.val < 1024 := by cases e <;> simp only [kOff] <;> omega
theorem head_lt (h : Fin 8) (d : Fin 64) : 64 * h.val + d.val < 512 := by omega

/-- The rows of batch `e` and the columns of head `h` of a stack of keys or values. -/
def headBlk (f : Vec F S1024x512 .f32) (e : Bool) (h : Fin 8) : Vec F S512x64 .f32 :=
  fun i => f (ix2 ⟨kOff e + (i 0).val, kOff_lt e (i 0)⟩ ⟨64 * h.val + (i 1).val, head_lt h (i 1)⟩)

section Partial

variable (I : Ins F) (c : Dev nD) (e : Bool) (h : Fin 8)

/-- The projected queries. -/
def qMat : FVec F S512x512 .f32 := k0_pay1 (I.x c) (I.wq c)

def qBlk : FVec F S256x64 .f32 := extractStridedSlice S256x64 ![qOff e, 64 * h.val] (qMat I c) (q_slices e h)
def kBlk : FVec F S512x64 .f32 := shapeCast S512x64 (headBlk (I.k c) e h) shapeCasts_S512x64_S512x64
def vBlk : FVec F S512x64 .f32 := shapeCast S512x64 (headBlk (I.v c) e h) shapeCasts_S512x64_S512x64

/-- The scaled scores of the device's own keys (down) against the queries (across). -/
def sT : FVec F S512x256 .f32 :=
  mulf (matmul dot_S512x64_S256x64_S512x256_1_1_0_0_n_n none (kBlk I c e h) (qBlk I c e h) (constant S512x256 .f32 0x00000000#32))
    (broadcast S512x256 (Scalar.ofBits .f32 0x3E000000#32))

/-- The column maxima, narrowed as they will travel. -/
def mB : FVec F S1x256 .bf16 :=
  truncf .bf16 (shapeCast S1x256 (multiReduction .maximumf [0] S256 (sT I c e h) 0xFF800000#32 reduces_S512x256_S256 (.inl rfl) rfl)
    shapeCasts_S256_S1x256) bitsLt_bf16_f32
def mV : FVec F S1x256 .f32 := extf .f32 (mB I c e h) bitsLt_bf16_f32

def pT : FVec F S512x256 .f32 := exp (subf (sT I c e h) (broadcastTo S512x256 (mV I c e h) broadcasts_S1x256_S512x256))
def lV : FVec F S1x256 .f32 :=
  shapeCast S1x256 (multiReduction .add [0] S256 (pT I c e h) 0x00000000#32 reduces_S512x256_S256 (.inl rfl) rfl) shapeCasts_S256_S1x256
def oV : FVec F S64x256 .f32 :=
  matmul dot_S512x64_S512x256_S64x256_0_0_1_1_n_n none (vBlk I c e h) (pT I c e h) (constant S64x256 .f32 0x00000000#32)

/-- The narrowed forms that are packed. -/
def oB : FVec F S64x256 .bf16 := truncf .bf16 (oV I c e h) bitsLt_bf16_f32
def mBB : FVec F S1x256 .bf16 := truncf .bf16 (mV I c e h) bitsLt_bf16_f32
def lB : FVec F S1x256 .bf16 := truncf .bf16 (lV I c e h) bitsLt_bf16_f32

end Partial

/-- A device's packed partial result for a batch: the heads' numerators, 64 rows each, then a row of maxima per head,
    then a row of sums per head. -/
def packed (I : Ins F) (e : Bool) (c : Dev nD) : S528x256.Idx → Elt F .bf16 := fun i =>
  if h0 : (i 0).val < 512 then oB I c e ⟨(i 0).val / 64, by omega⟩ (ix2 ⟨(i 0).val % 64, by omega⟩ (i 1))
  else if h1 : (i 0).val < 520 then mBB I c e ⟨(i 0).val - 512, by omega⟩ (ix2 0 (i 1))
  else lB I c e ⟨(i 0).val - 520, by have : (i 0).val < 528 := (i 0).isLt; omega⟩ (ix2 0 (i 1))

/-- A slot as a load reads it. -/
def slotV (v : S528x256.Idx → Elt F .bf16) : Vec F S1x528x256 .bf16 := fun i => v (ix2 (i 1) (i 2))

section Merge

variable (I : Ins F) (e : Bool)

/-- What device `c` holds in slot `k`, widened. -/
def recv (k : ℕ) (c : Dev nD) : FVec F S528x256 .f32 :=
  extf .f32 (shapeCast S528x256 (slotV (packed I e (src e k c))) shapeCasts_S1x528x256_S528x256) bitsLt_bf16_f32
def oR (k : ℕ) (c : Dev nD) (h : Fin 8) : FVec F S64x256 .f32 := extractStridedSlice S64x256 ![64 * h.val, 0] (recv I e k c) (oR_slices h)
def mR (k : ℕ) (c : Dev nD) (h : Fin 8) : FVec F S1x256 .f32 := extractStridedSlice S1x256 ![512 + h.val, 0] (recv I e k c) (mR_slices h)
def lR (k : ℕ) (c : Dev nD) (h : Fin 8) : FVec F S1x256 .f32 := extractStridedSlice S1x256 ![520 + h.val, 0] (recv I e k c) (lR_slices h)

/-- The maxima, sums and numerators after merging the results of the `k` devices before. -/
def M (c : Dev nD) (h : Fin 8) : ℕ → FVec F S1x256 .f32
  | 0 => mV I c e h
  | k + 1 => maximumf (M c h k) (mR I e (k + 1) c h)
/-- The factors by which a merge rescales what it had and what it received. -/
def aOld (c : Dev nD) (h : Fin 8) (k : ℕ) : FVec F S1x256 .f32 := exp (subf (M I e c h k) (M I e c h (k + 1)))
def aNew (c : Dev nD) (h : Fin 8) (k : ℕ) : FVec F S1x256 .f32 := exp (subf (mR I e (k + 1) c h) (M I e c h (k + 1)))
def Ls (c : Dev nD) (h : Fin 8) : ℕ → FVec F S1x256 .f32
  | 0 => lV I c e h
  | k + 1 => addf (mulf (Ls c h k) (aOld I e c h k)) (mulf (lR I e (k + 1) c h) (aNew I e c h k))
def Os (c : Dev nD) (h : Fin 8) : ℕ → FVec F S64x256 .f32
  | 0 => oV I c e h
  | k + 1 => addf (mulf (Os c h k) (broadcastTo S64x256 (aOld I e c h k) broadcasts_S1x256_S64x256))
      (mulf (oR I e (k + 1) c h) (broadcastTo S64x256 (aNew I e c h k) broadcasts_S1x256_S64x256))

end Merge

/-- What device `c` stores: the normalised heads of both batches through the output weights. -/
def outV (I : Ins F) (c : Dev nD) : FVec F S512x768 .f32 :=
  k0_pay466 (Ls I true c 0 3) (Os I true c 0 3) (Ls I true c 1 3) (Os I true c 1 3) (Ls I true c 2 3) (Os I true c 2 3)
    (Ls I true c 3 3) (Os I true c 3 3) (Ls I true c 4 3) (Os I true c 4 3) (Ls I true c 5 3) (Os I true c 5 3)
    (Ls I true c 6 3) (Os I true c 6 3) (Ls I true c 7 3) (Os I true c 7 3)
    (Ls I false c 0 3) (Os I false c 0 3) (Ls I false c 1 3) (Os I false c 1 3) (Ls I false c 2 3) (Os I false c 2 3)
    (Ls I false c 3 3) (Os I false c 3 3) (Ls I false c 4 3) (Os I false c 4 3) (Ls I false c 5 3) (Os I false c 5 3)
    (Ls I false c 6 3) (Os I false c 6 3) (Ls I false c 7 3) (Os I false c 7 3) (I.wo c)

end Cert.KernelIdealProof

end
-- ==== Proof.Steps.lean ====
/-
The steps of the kernel's parts, each as one lemma at a symbolic batch and head: the loads of keys and values, the
stores that fill slot 0 with a device's packed result, and the loads of the slots that come in.

Slot 0 is filled piece by piece; what is known on the way is which of its rows hold the packed result's already
(`Fill`). The contents themselves stay unnamed until the slot is full.
-/
module

public import proofs.«01_k».proof.Proof.Vals

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's weakest precondition on device `c`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Rows of slot 0 -/

/-- The rows done after `no` heads' numerators, `nm` heads' maxima and `nl` heads' sums. -/
def Done (no nm nl r : ℕ) : Prop := r < 64 * no ∨ (512 ≤ r ∧ r < 512 + nm) ∨ (520 ≤ r ∧ r < 520 + nl)

/-- The done rows of slot 0 hold `P`'s. -/
def Fill (e : Bool) (P : S528x256.Idx → Elt F .bf16) (no nm nl : ℕ) (f : (bufM e).view.ty.Contents (Elt F)) : Prop :=
  ∀ (r : Fin 528) (j : Fin 256), Done no nm nl r.val → (bufM e).view.read (Elt F) f (ix3 (0 : Fin 4) r j) = P (ix2 r j)

/-- Slot 0 on device `c`, with the done rows as they will be. -/
def fillPts (I : Ins F) (e : Bool) (no nm nl : ℕ) (c : Dev nD) : sProp 𝕄 :=
  iprop(∃ f, ⌜Fill e (packed I e c) no nm nl f⌝ ∗ slotPts e 0 fullShare c f)

omit [FloatOps F] in
theorem fill_none (e : Bool) (P : S528x256.Idx → Elt F .bf16) (f : (bufM e).view.ty.Contents (Elt F)) : Fill e P 0 0 0 f :=
  fun r j h => by unfold Done at h; omega

theorem fillPts_start (I : Ins F) (e : Bool) (c : Dev nD) (f) : slotPts e 0 fullShare c f ⊢ fillPts I e 0 0 0 c := by
  unfold fillPts
  iintro H; iexists f
  isplitr; · ipureintro; exact fill_none e _ f
  iexact H

/-- Once all heads are done the slot holds the packed result. -/
theorem fillPts_full (I : Ins F) (e : Bool) (c : Dev nD) : fillPts I e 8 8 8 c ⊢ slotPts e 0 fullShare c (spread e (packed I e c)) := by
  unfold fillPts
  iintro ⟨%f, %hf, H⟩
  refine Entails.of_eq (slotPts_congr e 0 fullShare c f (spread e (packed I e c)) (by
    rw [read_slot_spread]
    funext x
    rw [read_slot]
    have hx : (x 0).val < 528 := (x 0).isLt
    rw [hf (x 0) (x 1) (by unfold Done; omega)]
    exact congrArg _ (eq_ix2 x).symm))

/-- `n` rows of slot 0 from row `a`. -/
abbrev rowsR (a n : ℕ) (h : ∀ b, (![0, a, 0] : Fin 3 → Nat) b + (![1, n, 256] : Fin 3 → Nat) b ≤ S4x528x256.size b) : Rect S4x528x256 :=
  Rect.unit (s := S4x528x256) ![0, a, 0] ![1, n, 256] h

theorem rowsR_emb (a n : ℕ) (h) (x : (rowsR a n h).shape.Idx) :
    (rowsR a n h).emb x = ix3 (0 : Fin 4) ⟨a + (x 1).val, by have h1 : a + n ≤ 528 := h 1; have h2 : (x 1).val < n := (x 1).isLt; omega⟩ (x 2) := by
  funext b
  apply Fin.ext
  show (![0, a, 0] : Fin 3 → Nat) b + 1 * (x b).val = _
  fin_cases b
  · show 0 + 1 * (x 0).val = 0
    have : (x 0).val < 1 := (x 0).isLt
    omega
  · show a + 1 * (x 1).val = a + (x 1).val; omega
  · show 0 + 1 * (x 2).val = (x 2).val; omega

theorem rowsR_mem (a n : ℕ) (h) (r : Fin 528) (j : Fin 256) :
    (ix3 (0 : Fin 4) r j : S4x528x256.Idx) ∈ (rowsR a n h).set ↔ a ≤ r.val ∧ r.val < a + n := by
  rw [Rect.mem_set_unit]
  constructor
  · intro H; exact H 1
  · intro H b
    have := j.isLt
    fin_cases b
    · exact ⟨Nat.le_refl 0, Nat.one_pos⟩
    · exact H
    · show 0 ≤ j.val ∧ j.val < 0 + 256; omega

theorem rowsR_sub (e : Bool) (a n : ℕ) (h) : (bufM e).view.setOn (rowsR a n h).set ⊆ (slotM e 0).view.set := by
  rw [slot_set]
  refine Finset.map_subset_map.mpr fun i hi => ?_
  rw [mem_slotR]
  rw [Rect.mem_set_unit] at hi
  have h0 : 0 ≤ (i 0).val ∧ (i 0).val < 0 + 1 := hi 0
  exact Fin.ext (by show (i 0).val = 0; omega)

omit [FloatOps F] in
/-- A store of rows of slot 0 fills them, if what it stores is right wherever it is to count. -/
theorem fill_store (e : Bool) (P : S528x256.Idx → Elt F .bf16) {no nm nl no' nm' nl' : ℕ} {f : (bufM e).view.ty.Contents (Elt F)}
    (a n : ℕ) (h) (w : (rowsR a n h).shape.Idx → Elt F .bf16) (hf : Fill e P no nm nl f)
    (hw : ∀ (d : Fin n) (j : Fin 256) (hr : a + d.val < 528), Done no' nm' nl' (a + d.val) → w (ix3 (0 : Fin 1) d j) = P (ix2 ⟨a + d.val, hr⟩ j))
    (hD : ∀ r, Done no' nm' nl' r → ¬ (a ≤ r ∧ r < a + n) → Done no nm nl r) :
    Fill e P no' nm' nl' (((bufM e).access (rowsR a n h)).write (Elt F) f w Finset.univ) := by
  intro r j hr
  by_cases hm : a ≤ r.val ∧ r.val < a + n
  · have hd : r.val - a < n := by omega
    have e1 : (ix3 (0 : Fin 4) r j : S4x528x256.Idx) = (rowsR a n h).emb (ix3 (0 : Fin 1) ⟨r.val - a, hd⟩ j) := by
      rw [rowsR_emb]
      have : r = ⟨a + (r.val - a), by have := r.isLt; omega⟩ := Fin.ext (by show r.val = a + (r.val - a); omega)
      exact congrArg (fun q : Fin 528 => (ix3 (0 : Fin 4) q j : S4x528x256.Idx)) this
    rw [e1]
    refine (congrFun (View.read_write_univ (v := (bufM e).access (rowsR a n h)) f w) (ix3 (0 : Fin 1) ⟨r.val - a, hd⟩ j)).trans ?_
    have hval : a + (r.val - a) = r.val := by omega
    have hlt : a + (r.val - a) < 528 := by rw [hval]; exact r.isLt
    rw [hw ⟨r.val - a, hd⟩ j hlt (by show Done no' nm' nl' (a + (r.val - a)); rw [hval]; exact hr)]
    exact congrArg P (congrArg (fun q : Fin 528 => ix2 q j) (Fin.ext hval))
  · rw [← hf r j (hD r.val hr hm)]
    refine View.read_congr_at _ ?_
    refine View.write_of_not_mem _ _ _ ?_
    intro hmem
    rw [View.setOn_univ, View.set_slice, Finset.mem_map'] at hmem
    exact hm ((rowsR_mem a n h r j).mp hmem)

/-! ## The stored blocks at an index -/

theorem cast_col (x : Fin 1) (d : Fin 64) (j : Fin 256) :
    Shape.reshapeEquiv (s := S64x256) (s' := S1x64x256) shapeCasts_S64x256_S1x64x256 (ix3 x d j) = ix2 d j := by
  rw [← Equiv.eq_symm_apply, Shape.reshapeEquiv_symm]
  refine Eq.trans ?_ (Shape.reshapeEquiv_cons_one (d := ![64, 256]) _ (ix2 d j)).symm
  funext a; apply Fin.ext
  fin_cases a
  · show x.val = 0; omega
  · rfl
  · rfl

theorem cast_row (x y : Fin 1) (j : Fin 256) :
    Shape.reshapeEquiv (s := S1x256) (s' := S1x1x256) shapeCasts_S1x256_S1x1x256 (ix3 x y j) = ix2 (0 : Fin 1) j := by
  rw [← Equiv.eq_symm_apply, Shape.reshapeEquiv_symm]
  refine Eq.trans ?_ (Shape.reshapeEquiv_cons_one (d := ![1, 256]) _ (ix2 (0 : Fin 1) j)).symm
  funext a; apply Fin.ext
  fin_cases a
  · show x.val = 0; omega
  · show y.val = 0; omega
  · rfl

theorem cast_col_apply {α : Type} (v : S64x256.Idx → α) (d : Fin 64) (j : Fin 256) :
    shapeCast S1x64x256 v shapeCasts_S64x256_S1x64x256 (ix3 (0 : Fin 1) d j) = v (ix2 d j) := congrArg v (cast_col 0 d j)
theorem cast_row_apply {α : Type} (v : S1x256.Idx → α) (j : Fin 256) :
    shapeCast S1x1x256 v shapeCasts_S1x256_S1x1x256 (ix3 (0 : Fin 1) (0 : Fin 1) j) = v (ix2 (0 : Fin 1) j) := congrArg v (cast_row 0 0 j)

/-- A row of the packed result, by which of its three stretches it is in. -/
theorem packed_o (I : Ins F) (e : Bool) (c : Dev nD) (h : Fin 8) (d : Fin 64) (j : Fin 256) (hr : 64 * h.val + d.val < 528) :
    packed I e c (ix2 ⟨64 * h.val + d.val, hr⟩ j) = oB I c e h (ix2 d j) := by
  have h0 : 64 * h.val + d.val < 512 := by omega
  unfold packed
  rw [dif_pos h0]
  have e1 : (⟨(64 * h.val + d.val) / 64, by omega⟩ : Fin 8) = h := Fin.ext (by show (64 * h.val + d.val) / 64 = h.val; omega)
  have e2 : (⟨(64 * h.val + d.val) % 64, by omega⟩ : Fin 64) = d := Fin.ext (by show (64 * h.val + d.val) % 64 = d.val; omega)
  show oB I c e ⟨(64 * h.val + d.val) / 64, _⟩ (ix2 ⟨(64 * h.val + d.val) % 64, _⟩ j) = _
  rw [e1, e2]
theorem packed_m (I : Ins F) (e : Bool) (c : Dev nD) (h : Fin 8) (j : Fin 256) (r : Fin 528) (hr : r.val = 512 + h.val) :
    packed I e c (ix2 r j) = mBB I c e h (ix2 0 j) := by
  unfold packed
  rw [dif_neg (show ¬ (r.val < 512) by omega), dif_pos (show r.val < 520 by omega)]
  have e1 : (⟨r.val - 512, by omega⟩ : Fin 8) = h := Fin.ext (by show r.val - 512 = h.val; omega)
  show mBB I c e ⟨r.val - 512, _⟩ (ix2 0 j) = _
  rw [e1]
theorem packed_l (I : Ins F) (e : Bool) (c : Dev nD) (h : Fin 8) (j : Fin 256) (r : Fin 528) (hr : r.val = 520 + h.val) :
    packed I e c (ix2 r j) = lB I c e h (ix2 0 j) := by
  unfold packed
  rw [dif_neg (show ¬ (r.val < 512) by omega), dif_neg (show ¬ (r.val < 520) by omega)]
  have e1 : (⟨r.val - 520, by omega⟩ : Fin 8) = h := Fin.ext (by show r.val - 520 = h.val; omega)
  show lB I c e ⟨r.val - 520, _⟩ (ix2 0 j) = _
  rw [e1]

/-- A pair of rows of which one is replaced: the other keeps what it held. -/
theorem update_pair (old : S1x2x256.Idx → Elt F .bf16) (u : S1x1x256.Idx → Elt F .bf16) (p : Fin 2)
    (hs : S1x2x256.Slices ![0, p.val, 0] S1x1x256) (d : Fin 2) (j : Fin 256) :
    updateSlice old u ![0, p.val, 0] hs (ix3 (0 : Fin 1) d j) = if d = p then u (ix3 (0 : Fin 1) (0 : Fin 1) j) else old (ix3 (0 : Fin 1) d j) := by
  unfold updateSlice
  by_cases h : d = p
  · subst h
    rw [if_pos rfl, dif_pos (by
      intro a
      have := j.isLt
      fin_cases a
      · exact ⟨Nat.le_refl 0, Nat.one_pos⟩
      · show d.val ≤ d.val ∧ d.val < d.val + 1; omega
      · show 0 ≤ j.val ∧ j.val < 0 + 256; omega)]
    congr 1
    funext b; apply Fin.ext
    fin_cases b
    · rfl
    · show d.val - d.val = 0; omega
    · rfl
  · rw [if_neg h, dif_neg]
    intro H
    have h1 : p.val ≤ d.val ∧ d.val < p.val + 1 := H 1
    exact h (Fin.ext (by omega))

/-! ## The steps -/

section Steps

variable (I : Ins F) (c : Dev nD) (e : Bool)

/-- A buffer of the pipeline, whole, at named contents. -/
abbrev stg (b : Ref sig .tc) (f : b.ty.Contents (Elt F)) : sProp 𝕄 := (Memref.whole b).view.loc (c : Thread nD τ) ↦{fullShare} f

abbrev kPts : sProp 𝕄 := stg c cc0_stg3_0 (I.k c)
abbrev vPts : sProp 𝕄 := stg c cc0_stg4_0 (I.v c)

theorem headRect_inb (e : Bool) (h : Fin 8) : ∀ a, (![kOff e, 64 * h.val] : Fin 2 → Nat) a + S512x64.size a ≤ S1024x512.size a := by
  revert e h; decide

omit [FloatOps F] in
theorem headBlk_read (e : Bool) (h : Fin 8) (hin) (b : Memref sig .tc .vmem S1024x512 .f32) (f : b.view.ty.Contents (Elt F))
    (g : Vec F S1024x512 .f32) (hg : b.view.read (Elt F) f = g) :
    b.view.readAt (Elt F) (Rect.unit (s := S1024x512) ![kOff e, 64 * h.val] S512x64.size hin).toLoadRect f = headBlk g e h := by
  subst hg
  funext x
  rw [View.readAt_apply]
  unfold headBlk
  congr 1
  funext a; apply Fin.ext
  fin_cases a
  · show kOff e + 1 * (x 0).val = kOff e + (x 0).val; omega
  · show 64 * h.val + 1 * (x 1).val = 64 * h.val + (x 1).val; omega

/-- The load of head `h`'s keys, -/
theorem wp_k (h : Fin 8) {hin : ∀ a, (![kOff e, 64 * h.val] : Fin 2 → Nat) a + S512x64.size a ≤ S1024x512.size a}
    {hl : (Memref.whole cc0_stg3_0).view.LoadsAt (Rect.unit (s := S1024x512) ![kOff e, 64 * h.val] S512x64.size hin).toLoadRect}
    {α : Type} {Q : α → sProp 𝕄} {k : Vec F S512x64 .f32 → Prog (TpuEff nD τ sig (Elt F) Λ₀ .tc) α} :
    kPts I c ⊢ iprop((kPts I c -∗ wpK c (k (headBlk (I.k c) e h)) Q)
      -∗ wpK c (.op (.load (Memref.whole cc0_stg3_0) (Rect.unit (s := S1024x512) ![kOff e, 64 * h.val] S512x64.size hin).toLoadRect hl) k) Q) := by
  rw [← headBlk_read e h hin (Memref.whole cc0_stg3_0) (I.k c) (I.k c) rfl]
  exact wp_load 𝒱₀ (c : Thread nD τ) none Set.univ (m := Memref.whole cc0_stg3_0) (Finset.subset_univ _)
/-- and of its values. -/
theorem wp_v (h : Fin 8) {hin : ∀ a, (![kOff e, 64 * h.val] : Fin 2 → Nat) a + S512x64.size a ≤ S1024x512.size a}
    {hl : (Memref.whole cc0_stg4_0).view.LoadsAt (Rect.unit (s := S1024x512) ![kOff e, 64 * h.val] S512x64.size hin).toLoadRect}
    {α : Type} {Q : α → sProp 𝕄} {k : Vec F S512x64 .f32 → Prog (TpuEff nD τ sig (Elt F) Λ₀ .tc) α} :
    vPts I c ⊢ iprop((vPts I c -∗ wpK c (k (headBlk (I.v c) e h)) Q)
      -∗ wpK c (.op (.load (Memref.whole cc0_stg4_0) (Rect.unit (s := S1024x512) ![kOff e, 64 * h.val] S512x64.size hin).toLoadRect hl) k) Q) := by
  rw [← headBlk_read e h hin (Memref.whole cc0_stg4_0) (I.v c) (I.v c) rfl]
  exact wp_load 𝒱₀ (c : Thread nD τ) none Set.univ (m := Memref.whole cc0_stg4_0) (Finset.subset_univ _)

/-- A load of rows of slot 0 whose result goes unread. -/
theorem wp_dead (no nm nl a n : ℕ)
    {hin : ∀ b, (![0, a, 0] : Fin 3 → Nat) b + (![1, n, 256] : Fin 3 → Nat) b ≤ S4x528x256.size b}
    {hl : (bufM e).view.LoadsAt (rowsR (a) n hin).toLoadRect}
    {α : Type} {Q : α → sProp 𝕄} {k : ((rowsR a n hin).toLoadRect.shape.Idx → Elt F .bf16) → Prog (TpuEff nD τ sig (Elt F) Λ₀ .tc) α} :
    fillPts I e no nm nl c ⊢ iprop((∀ v, fillPts I e no nm nl c -∗ wpK c (k v) Q)
      -∗ wpK c (.op (.load (bufM e) (rowsR a n hin).toLoadRect hl) k) Q) := by
  unfold fillPts slotPts
  iintro ⟨%f, %hf, H⟩ HQ
  iapply (wp_load 𝒱₀ (c : Thread nD τ) none Set.univ (m := bufM e) (rowsR_sub e a n hin)) $$ H
  iintro H
  iapply HQ
  iexists f
  isplitr; · ipureintro; exact hf
  iexact H

/-- The store of head `h`'s numerators. -/
theorem wp_o (h : Fin 8) (no nm nl : ℕ) (hno : h.val = no)
    {hin : ∀ b, (![0, 64 * h.val, 0] : Fin 3 → Nat) b + (![1, 64, 256] : Fin 3 → Nat) b ≤ S4x528x256.size b} {w : S1x64x256.Idx → Elt F .bf16}
    {hx : ((bufM e).access (rowsR (64 * h.val) 64 hin)).Stores Finset.univ} {hm : Finset.univ = Finset.univ ∨ ∀ a, (rowsR (64 * h.val) 64 hin).stride a = 1}
    {α : Type} {Q : α → sProp 𝕄} {k : PUnit → Prog (TpuEff nD τ sig (Elt F) Λ₀ .tc) α}
    (hw : w = shapeCast S1x64x256 (oB I c e h) shapeCasts_S64x256_S1x64x256) :
    fillPts I e no nm nl c ⊢ iprop((fillPts I e (no + 1) nm nl c -∗ wpK c (k ⟨⟩) Q)
      -∗ wpK c (.op (.store (bufM e) (rowsR (64 * h.val) 64 hin) w Finset.univ hx hm) k) Q) := by
  unfold fillPts slotPts
  iintro ⟨%f, %hf, H⟩ HQ
  iapply (wp_store 𝒱₀ (c : Thread nD τ) none Set.univ (m := bufM e) (r := rowsR (64 * h.val) 64 hin) (Mk := Finset.univ)
    (by rw [View.setOn_univ, View.set_slice]; exact rowsR_sub e (64 * h.val) 64 hin)) $$ H
  iintro H
  iapply HQ
  iexists _
  isplitr
  · ipureintro
    refine fill_store e (packed I e c) (64 * h.val) 64 hin w hf ?_ ?_
    · intro d j hr _
      rw [packed_o, hw]
      exact cast_col_apply (oB I c e h) d j
    · intro r hr hn
      unfold Done at hr ⊢
      omega
  iexact H

/-- The two rows in which head `h`'s maximum and its neighbour's lie, and the same of the sums. -/
abbrev mRow (h : Fin 8) : ℕ := 512 + 2 * (h.val / 2)
abbrev lRow (h : Fin 8) : ℕ := 520 + 2 * (h.val / 2)
set_option backward.proofsInPublic true in
abbrev par (h : Fin 8) : Fin 2 := ⟨h.val % 2, Nat.mod_lt _ (by decide)⟩

omit [FloatOps F] in
theorem read_pair (a : ℕ) (hin) (f : (bufM e).view.ty.Contents (Elt F)) (d : Fin 2) (j : Fin 256) (hr : a + d.val < 528) :
    (bufM e).view.readAt (Elt F) (rowsR a 2 hin).toLoadRect f (ix3 (0 : Fin 1) d j) = (bufM e).view.read (Elt F) f (ix3 (0 : Fin 4) ⟨a + d.val, hr⟩ j) := by
  rw [View.readAt_apply]
  exact congrArg _ (rowsR_emb a 2 hin (ix3 (0 : Fin 1) d j))

/-- A pair of rows of slot 0 in which one row is replaced. -/
abbrev pairW (f : (bufM e).view.ty.Contents (Elt F)) (a : ℕ) (hin) (u : S1x1x256.Idx → Elt F .bf16) (p : Fin 2)
    (hs : S1x2x256.Slices ![0, p.val, 0] S1x1x256) : (rowsR a 2 hin).shape.Idx → Elt F .bf16 :=
  updateSlice (s := S1x2x256) ((bufM e).view.readAt (Elt F) (rowsR a 2 hin).toLoadRect f) u ![0, p.val, 0] hs

theorem fill_pair (P : S528x256.Idx → Elt F .bf16) {no nm nl no' nm' nl' : ℕ} {f : (bufM e).view.ty.Contents (Elt F)} (a : ℕ) (hin)
    (u : S1x1x256.Idx → Elt F .bf16) (p : Fin 2) (hs) (hf : Fill e P no nm nl f)
    (hP : ∀ (j : Fin 256) (hr : a + p.val < 528), u (ix3 (0 : Fin 1) (0 : Fin 1) j) = P (ix2 ⟨a + p.val, hr⟩ j))
    (hd : ∀ d : ℕ, d < 2 → d ≠ p.val → Done no' nm' nl' (a + d) → Done no nm nl (a + d))
    (hD : ∀ r, Done no' nm' nl' r → ¬ (a ≤ r ∧ r < a + 2) → Done no nm nl r) :
    Fill e P no' nm' nl' (((bufM e).access (rowsR a 2 hin)).write (Elt F) f (pairW e f a hin u p hs) Finset.univ) := by
  refine fill_store e P a 2 hin (pairW e f a hin u p hs) hf (fun d j hr h => ?_) hD
  refine (update_pair _ u p hs d j).trans ?_
  by_cases hp : d = p
  · subst hp
    rw [if_pos rfl]
    exact hP j hr
  · rw [if_neg hp, read_pair e a hin f d j hr]
    exact hf _ j (hd d.val d.isLt (fun h' => hp (Fin.ext h')) h)

/-- The store of head `h`'s maxima: one row of a pair replaced. -/
theorem wp_m (h : Fin 8) (no nm nl : ℕ) (hnm : h.val = nm)
    {hin : ∀ b, (![0, mRow h, 0] : Fin 3 → Nat) b + (![1, 2, 256] : Fin 3 → Nat) b ≤ S4x528x256.size b} {u : S1x1x256.Idx → Elt F .bf16} {hs : S1x2x256.Slices ![0, (par h).val, 0] S1x1x256}
    {hl : (bufM e).view.LoadsAt (rowsR (mRow h) 2 hin).toLoadRect}
    {hx : ((bufM e).access (rowsR (mRow h) 2 hin)).Stores Finset.univ} {hm : Finset.univ = Finset.univ ∨ ∀ a, (rowsR (mRow h) 2 hin).stride a = 1}
    {α : Type} {Q : α → sProp 𝕄} {k : PUnit → Prog (TpuEff nD τ sig (Elt F) Λ₀ .tc) α}
    (hu : u = shapeCast S1x1x256 (mBB I c e h) shapeCasts_S1x256_S1x1x256) :
    fillPts I e no nm nl c ⊢ iprop((fillPts I e no (nm + 1) nl c -∗ wpK c (k ⟨⟩) Q)
      -∗ wpK c (.op (.load (bufM e) (rowsR (mRow h) 2 hin).toLoadRect hl) fun old =>
          .op (.store (bufM e) (rowsR (mRow h) 2 hin) (updateSlice old u ![0, (par h).val, 0] hs) Finset.univ hx hm) k) Q) := by
  unfold fillPts slotPts
  iintro ⟨%f, %hf, H⟩ HQ
  iapply (wp_load 𝒱₀ (c : Thread nD τ) none Set.univ (m := bufM e) (rowsR_sub e (mRow h) 2 hin)) $$ H
  iintro H
  iapply (wp_store 𝒱₀ (c : Thread nD τ) none Set.univ (m := bufM e) (r := rowsR (mRow h) 2 hin) (Mk := Finset.univ)
    (by rw [View.setOn_univ, View.set_slice]; exact rowsR_sub e (mRow h) 2 hin)) $$ H
  iintro H
  iapply HQ
  iexists (((bufM e).access (rowsR (mRow h) 2 hin)).write (Elt F) f (pairW e f (mRow h) hin u (par h) hs) Finset.univ)
  isplitr
  · ipureintro
    refine fill_pair e (packed I e c) (mRow h) hin u (par h) hs hf ?_ ?_ ?_
    · intro j hr
      rw [packed_m I e c h j ⟨mRow h + (par h).val, hr⟩ (by show 512 + 2 * (h.val / 2) + h.val % 2 = 512 + h.val; omega), hu]
      exact cast_row_apply (mBB I c e h) j
    · intro d hd hv H
      have hv' : d ≠ h.val % 2 := hv
      simp only [Done, mRow] at H ⊢
      omega
    · intro r hr hn
      simp only [Done, mRow] at hr hn ⊢
      omega
  iexact H

/-- The store of head `h`'s sums. -/
theorem wp_l (h : Fin 8) (no nm nl : ℕ) (hnl : h.val = nl)
    {hin : ∀ b, (![0, lRow h, 0] : Fin 3 → Nat) b + (![1, 2, 256] : Fin 3 → Nat) b ≤ S4x528x256.size b} {u : S1x1x256.Idx → Elt F .bf16} {hs : S1x2x256.Slices ![0, (par h).val, 0] S1x1x256}
    {hl : (bufM e).view.LoadsAt (rowsR (lRow h) 2 hin).toLoadRect}
    {hx : ((bufM e).access (rowsR (lRow h) 2 hin)).Stores Finset.univ} {hm : Finset.univ = Finset.univ ∨ ∀ a, (rowsR (lRow h) 2 hin).stride a = 1}
    {α : Type} {Q : α → sProp 𝕄} {k : PUnit → Prog (TpuEff nD τ sig (Elt F) Λ₀ .tc) α}
    (hu : u = shapeCast S1x1x256 (lB I c e h) shapeCasts_S1x256_S1x1x256) :
    fillPts I e no nm nl c ⊢ iprop((fillPts I e no nm (nl + 1) c -∗ wpK c (k ⟨⟩) Q)
      -∗ wpK c (.op (.load (bufM e) (rowsR (lRow h) 2 hin).toLoadRect hl) fun old =>
          .op (.store (bufM e) (rowsR (lRow h) 2 hin) (updateSlice old u ![0, (par h).val, 0] hs) Finset.univ hx hm) k) Q) := by
  unfold fillPts slotPts
  iintro ⟨%f, %hf, H⟩ HQ
  iapply (wp_load 𝒱₀ (c : Thread nD τ) none Set.univ (m := bufM e) (rowsR_sub e (lRow h) 2 hin)) $$ H
  iintro H
  iapply (wp_store 𝒱₀ (c : Thread nD τ) none Set.univ (m := bufM e) (r := rowsR (lRow h) 2 hin) (Mk := Finset.univ)
    (by rw [View.setOn_univ, View.set_slice]; exact rowsR_sub e (lRow h) 2 hin)) $$ H
  iintro H
  iapply HQ
  iexists (((bufM e).access (rowsR (lRow h) 2 hin)).write (Elt F) f (pairW e f (lRow h) hin u (par h) hs) Finset.univ)
  isplitr
  · ipureintro
    refine fill_pair e (packed I e c) (lRow h) hin u (par h) hs hf ?_ ?_ ?_
    · intro j hr
      rw [packed_l I e c h j ⟨lRow h + (par h).val, hr⟩ (by show 520 + 2 * (h.val / 2) + h.val % 2 = 520 + h.val; omega), hu]
      exact cast_row_apply (lB I c e h) j
    · intro d hd hv H
      have hv' : d ≠ h.val % 2 := hv
      simp only [Done, lRow] at H ⊢
      omega
    · intro r hr hn
      simp only [Done, lRow] at hr hn ⊢
      omega
  iexact H

omit [FloatOps F] in
theorem slot_readAt (k : Fin 4) (hin) (v : S528x256.Idx → Elt F .bf16) :
    (bufM e).view.readAt (Elt F) (Rect.unit (s := S4x528x256) ![k.val, 0, 0] S1x528x256.size hin).toLoadRect (spread e v) = slotV v := by
  funext x
  rw [View.readAt_apply, read_spread]
  unfold slotV
  congr 1
  funext a; apply Fin.ext
  fin_cases a
  · show 0 + 1 * (x 1).val = (x 1).val; omega
  · show 0 + 1 * (x 2).val = (x 2).val; omega

/-- The load of a slot, at any share of it. -/
theorem wp_slot (s : Fin 4) (q : PosShare TreeShare) (v : S528x256.Idx → Elt F .bf16)
    {hin : ∀ b, (![s.val, 0, 0] : Fin 3 → Nat) b + S1x528x256.size b ≤ S4x528x256.size b}
    {hl : (bufM e).view.LoadsAt (Rect.unit (s := S4x528x256) ![s.val, 0, 0] S1x528x256.size hin).toLoadRect}
    {α : Type} {Q : α → sProp 𝕄} {k : Vec F S1x528x256 .bf16 → Prog (TpuEff nD τ sig (Elt F) Λ₀ .tc) α} :
    slotPts e s q c (spread e v) ⊢ iprop((slotPts e s q c (spread e v) -∗ wpK c (k (slotV v)) Q)
      -∗ wpK c (.op (.load (bufM e) (Rect.unit (s := S4x528x256) ![s.val, 0, 0] S1x528x256.size hin).toLoadRect hl) k) Q) := by
  rw [← slot_readAt e s hin v]
  unfold slotPts
  exact wp_load 𝒱₀ (c : Thread nD τ) none Set.univ (m := bufM e) (by rw [slot_set]; exact subset_rfl)

end Steps

end Cert.KernelIdealProof

end
-- ==== Proof.Moves.lean ====
/-
The talking steps of the kernel, each as one lemma at a symbolic ring and hop: the two signals and the wait of the
barrier, the copy of a slot to the neighbour, and the waits for what arrives and for what was sent.

A hop goes through four states: ready (`hopA`), in flight (`hopB`), its own slot arrived (`hopC`), its copy given back
(`hopD`).
-/
module

public import proofs.«01_k».proof.Proof.Steps

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-- The protocol, carrying the packed results. -/
abbrev rd : Rounds.Schedule (GSem nD τ sig) Bool 𝕄 := ringRd (packed I)

/-- Slot `s` of ring `e` on device `c`, holding the result of the device `s` places back. -/
abbrev slotAt (e : Bool) (s : Fin 4) (q : PosShare TreeShare) (c : Dev nD) : sProp 𝕄 :=
  slotPts e s q c (spread e (packed I e (src e s.val c)))

/-- What device `c` owes after `n` payments. -/
def owesN (n : ℕ) (c : Dev nD) : sProp 𝕄 := iprop(∃ W, owes (c : Thread nD τ) (owed n c) W)

/-! ## The lasting facts -/

variable (κ : GSem nD τ sig → ℕ)

/-- The lasting facts of hop `k` in ring `e`. -/
def ringRecs (e : Bool) (k : Fin 3) (c : Dev nD) : sProp 𝕄 :=
  iprop(cellInv ER (rd I) (κ (sCell e k c)) (sCell e k c) ∗ cellInv ER (rd I) (κ (rCell e k c)) (rCell e k c)
    ∗ cellInv ER (rd I) (κ (rCell e k (tgt e c))) (rCell e k (tgt e c))
    ∗ reached ER (sCell e k c) 0 ∗ reached ER (rCell e k c) 0)

instance ringRecs_persistent (e : Bool) (k : Fin 3) (c : Dev nD) : BI.Persistent (ringRecs I κ e k c) := by
  unfold ringRecs; infer_instance

/-- All lasting facts of device `c`. -/
def recs (c : Dev nD) : sProp 𝕄 :=
  iprop(levAts L lv ∗ (cellInv ER (rd I) (κ (barCell c)) (barCell c)
    ∗ (cellInv ER (rd I) (κ (barCell (prv c))) (barCell (prv c)) ∗ reached ER (barCell (prv c)) 0)
    ∗ (cellInv ER (rd I) (κ (barCell (nxt c))) (barCell (nxt c)) ∗ reached ER (barCell (nxt c)) 0))
    ∗ (ringRecs I κ true 0 c ∗ ringRecs I κ true 1 c ∗ ringRecs I κ true 2 c)
    ∗ (ringRecs I κ false 0 c ∗ ringRecs I κ false 1 c ∗ ringRecs I κ false 2 c))

instance recs_persistent (c : Dev nD) : BI.Persistent (recs I κ c) := by unfold recs; infer_instance

theorem recs_lev (c : Dev nD) : recs I κ c ⊢ levAts L lv := by
  unfold recs; iintro ⟨#H, -⟩; iexact H
theorem recs_bar (c : Dev nD) : recs I κ c ⊢ cellInv ER (rd I) (κ (barCell c)) (barCell c) := by
  unfold recs; iintro ⟨-, ⟨#H, -⟩, -⟩; iexact H
theorem recs_barN (e : Bool) (c : Dev nD) :
    recs I κ c ⊢ iprop(cellInv ER (rd I) (κ (barCell (frm e c))) (barCell (frm e c)) ∗ reached ER (barCell (frm e c)) 0) := by
  unfold recs
  cases e
  · iintro ⟨-, ⟨-, -, #H⟩, -⟩; iexact H
  · iintro ⟨-, ⟨-, #H, -⟩, -⟩; iexact H
theorem recs_ring (e : Bool) (k : Fin 3) (c : Dev nD) : recs I κ c ⊢ ringRecs I κ e k c := by
  unfold recs
  cases e
  · fin_cases k
    · iintro ⟨-, -, -, #H, -⟩; iexact H
    · iintro ⟨-, -, -, -, #H, -⟩; iexact H
    · iintro ⟨-, -, -, -, -, #H⟩; iexact H
  · fin_cases k
    · iintro ⟨-, -, ⟨#H, -⟩, -⟩; iexact H
    · iintro ⟨-, -, ⟨-, #H, -⟩, -⟩; iexact H
    · iintro ⟨-, -, ⟨-, -, #H⟩, -⟩; iexact H

/-! ## The states of a hop -/

/-- Before the barrier: positions, the tokens to pay with, the credit to wait with. -/
def hop0 (e : Bool) (k : Fin 3) (c : Dev nD) : sProp 𝕄 :=
  iprop(atPos ER (sCell e k c) 0 ∅ 0 ∗ atPos ER (rCell e k c) 0 ∅ 0 ∗ dutyTok ER (sCell e k c) 0 false
    ∗ dutyTok ER (rCell e k (tgt e c)) 0 false ∗ cred (tallyAt (rCell e k c) () N))
/-- Ready: the neighbour's slot is at hand. -/
def hopA (e : Bool) (k : Fin 3) (c : Dev nD) : sProp 𝕄 :=
  iprop(hop0 e k c ∗ (∃ f, slotPts e k.succ fullShare (tgt e c) f) ∗ reached ER (rCell e k (tgt e c)) 0)
/-- In flight. -/
def hopB (e : Bool) (k : Fin 3) (c : Dev nD) : sProp 𝕄 :=
  iprop(atPos ER (sCell e k c) 0 ∅ 0 ∗ cred (tallyAt (sCell e k c) () N) ∗ atPos ER (rCell e k c) 0 ∅ 0
    ∗ cred (tallyAt (rCell e k c) () N))
/-- The own slot has arrived. -/
def hopC (e : Bool) (k : Fin 3) (c : Dev nD) : sProp 𝕄 :=
  iprop(atPos ER (sCell e k c) 0 ∅ 0 ∗ cred (tallyAt (sCell e k c) () N) ∗ atPos ER (rCell e k c) (0 + 1) ∅ 0)
/-- The copy is over at both ends. -/
def hopD (e : Bool) (k : Fin 3) (c : Dev nD) : sProp 𝕄 :=
  iprop(atPos ER (sCell e k c) (0 + 1) ∅ 0 ∗ atPos ER (rCell e k c) (0 + 1) ∅ 0)

theorem bar_step (e : Bool) (c : Dev nD) :
    owed (bif e then 0 else 1) c = owed ((bif e then 0 else 1) + 1) c + tallyAt (barCell (frm e c)) () 1 := by
  cases e <;> rfl

section Talk

variable (c : Dev nD)

/-- A signal of the barrier: to the device that sends to `c` in ring `e`, handing it `c`'s slots of that ring. -/
theorem wp_bar_signal (e : Bool) (n : ℕ) (hn : n = bif e then 0 else 1) (t : Dev nD) (ht : t = frm e c) {a : ℕ} (ha : 1 = a)
    {α : Type} {Q : α → sProp 𝕄} {k : PUnit → Prog (TpuEff nD τ sig (Elt F) Λ₀ .tc) α} (f1 f2 f3) :
    iprop(recs I κ c ∗ owesN n c ∗ dutyTok ER (barCell (frm e c)) 0 e
        ∗ slotPts e 1 fullShare c f1 ∗ slotPts e 2 fullShare c f2 ∗ slotPts e 3 fullShare c f3)
      ⊢ iprop((owesN (n + 1) c -∗ wpK c (k ⟨⟩) Q) -∗ wpK c (.op (.semSignal (Dev.tc t : Thread nD τ) barS a) k) Q) := by
  subst ht
  subst hn
  unfold owesN
  iintro ⟨#HR, ⟨%W, HO⟩, Ht, H1, H2, H3⟩ HQ
  ihave #HB := (recs_barN I κ e c) $$ HR
  icases HB with ⟨#HI, #Hre⟩
  ihave #HR0 := (recs_ring I κ e 0 c) $$ HR
  ihave #HR1 := (recs_ring I κ e 1 c) $$ HR
  ihave #HR2 := (recs_ring I κ e 2 c) $$ HR
  unfold ringRecs
  icases HR0 with ⟨-, -, -, -, #Hr0⟩
  icases HR1 with ⟨-, -, -, -, #Hr1⟩
  icases HR2 with ⟨-, -, -, -, #Hr2⟩
  iapply (Rounds.wp_signal 𝒱₀ ER (rd I) (c : Thread nD τ) none (dst := (frm e c : Thread nD τ)) (κ := κ (barCell (frm e c)))
      (d := e) (by rw [duties_bar]; exact Finset.mem_univ _) ((amount_bar (packed I) (frm e c) e).trans ha) ()
      (owed ((bif e then 0 else 1) + 1) c) (by subst ha; exact bar_step e c) (W := W))
    $$ [HO Ht H1 H2 H3]
  · isplitr; · iexact HI
    isplitl [HO]; · iexact HO
    isplitl [Ht]; · iexact Ht
    isplitl [H1 H2 H3]
    · rw [payload_bar]; unfold barPay; rw [tgt_frm]
      isplitl [H1]; · iexists f1; iexact H1
      isplitl [H2]; · iexists f2; iexact H2
      isplitl [H3]; · iexists f3; iexact H3
      isplitr; · iexact Hr0
      isplitr; · iexact Hr1
      iexact Hr2
    iexact Hre
  iintro HO
  iapply HQ
  iexists W; iexact HO

/-- The wait of the barrier: both neighbours' slots come with it. -/
theorem wp_bar_wait {a : ℕ} (ha : 2 = a) {α : Type} {Q : α → sProp 𝕄} {k : PUnit → Prog (TpuEff nD τ sig (Elt F) Λ₀ .tc) α} :
    iprop(recs I κ c ∗ owesN 2 c ∗ atPos ER (barCell c) 0 ∅ 0 ∗ cred (tallyAt (barCell c) () 2))
      ⊢ iprop(((owesN 2 c ∗ atPos ER (barCell c) (0 + 1) ∅ 0 ∗ barPay (F := F) true c ∗ barPay (F := F) false c) -∗ wpK c (k ⟨⟩) Q)
        -∗ wpK c (.op (.semWait barS a) k) Q) := by
  subst ha
  unfold owesN
  iintro ⟨#HR, ⟨%W, HO⟩, Hat, Hc⟩ HQ
  iapply (Rounds.wp_wait_rest_token 𝒱₀ ER (rd I) (c : Thread nD τ) none (κ := κ (barCell c))
      (wpE_semWait_eq 𝒱₀ (c : Thread nD τ) none Set.univ) (Set.mem_univ _) () (O := owed 2 c) (W := W) (R := 0) (m := 0) (T := ∅)
      ((Nat.zero_add 2).trans (expect_bar (packed I) c).symm)) $$ [Hc HO Hat]
  · isplitr; · iapply (recs_bar I κ c); iexact HR
    isplitl [Hc]; · iexact Hc
    isplitl [HO]; · iexact HO
    isplitr; · iapply (mayWait_bar c); iapply (recs_lev I κ c); iexact HR
    iexact Hat
  iintro ⟨HO, Hat, -, Hpay⟩
  ihave Hp := (Entails.of_eq (rest_bar (packed I) c)) $$ Hpay
  icases Hp with ⟨HpT, HpF⟩
  iapply HQ
  isplitl [HO]; · iexists _; iexact HO
  isplitl [Hat]; · iexact Hat
  isplitl [HpT]; · iexact HpT
  iexact HpF

/-- The copy of hop `k`: slot `k` to the neighbour's slot `k + 1`. -/
theorem wp_send (e : Bool) (k : Fin 3) (n : ℕ) (hn : n = payNo e k) (t : Dev nD) (ht : t = tgt e c)
    {hsc : (slotM e k.succ : Memref sig (Dev.tc t : Thread nD τ).2.kind .vmem S528x256 .bf16).view.ref.isScScratch = false}
    {hsrc : (slotM e k.castSucc).view.WordExact} {hdst : (slotM e k.succ).view.WordExact}
    {hsem : DmaTarget.Typed .vmem (.dma (rS e k)) (.remote (Dev.tc t : Thread nD τ) (slotM e k.succ) (.dma (sS e k)) hsc)}
    {α : Type} {Q : α → sProp 𝕄} {p : PUnit → Prog (TpuEff nD τ sig (Elt F) Λ₀ .tc) α} :
    iprop(recs I κ c ∗ owesN n c ∗ hopA e k c ∗ slotAt I e k.castSucc fullShare c)
      ⊢ iprop(((owesN (n + 1) c ∗ hopB e k c ∗ slotAt I e k.castSucc fullShare.right c) -∗ wpK c (p ⟨⟩) Q)
        -∗ wpK c (.op (.enqueueDma (slotM e k.castSucc) (.remote (Dev.tc t : Thread nD τ) (slotM e k.succ) (.dma (sS e k)) hsc)
            (.dma (rS e k)) hsrc hdst hsem) p) Q) := by
  subst ht
  subst hn
  unfold owesN hopA hop0 hopB
  iintro ⟨#HR, ⟨%W, HO⟩, ⟨⟨HatS, HatR, HtS, HtR, HcR⟩, ⟨%f, Hd⟩, #HrR⟩, Hs⟩ HQ
  ihave #HR0 := (recs_ring I κ e k c) $$ HR
  unfold ringRecs
  icases HR0 with ⟨#HIs, -, #HIr, #HrS, -⟩
  ihave Hs2 := (slot_halves e k.castSucc c _).1 $$ Hs
  icases Hs2 with ⟨HsL, HsR⟩
  have hL : (slotPts e k.castSucc fullShare.left c (spread e (packed I e (src e k.castSucc.val c))) : sProp 𝕄)
    = ((slotM e k.castSucc).view.loc (c : Thread nD τ) ↦[(slotM e k.castSucc).view.set]{fullShare.left} spread e (packed I e (src e k.val c))) := by
    unfold slotPts; rfl
  have hD : (slotPts e k.succ fullShare (tgt e c) f : sProp 𝕄)
    = ((slotM e k.succ).view.loc (tgt e c : Thread nD τ) ↦[(slotM e k.succ).view.set]{fullShare} f) := by unfold slotPts; rfl
  ihave HsL' := (Entails.of_eq hL) $$ HsL
  ihave Hd' := (Entails.of_eq hD) $$ Hd
  iapply (Rounds.wp_send_pointsTo 𝒱₀ ER (rd I) (c : Thread nD τ) none (c' := (tgt e c : Thread nD τ)) (src := slotM e k.castSucc)
      (dst := slotM e k.succ) (sS := .dma (sS e k)) (sem := .dma (rS e k)) (q := fullShare.left)
      (fs := spread e (packed I e (src e k.val c))) (κ₁ := κ (sCell e k c)) (κ₂ := κ (rCell e k (tgt e c)))
      (r₁ := 0) (r₂ := 0) (d₁ := false) (d₂ := false) (fd := f)
      (by rw [duties_x _ c _ (isX_s e k)]; exact Finset.mem_singleton_self _)
      (by rw [duties_x _ (tgt e c) _ (isX_r e k)]; exact Finset.mem_singleton_self _)
      () () N (credit_eq e k.succ) (amount_x (packed I) c _ false) (amount_x (packed I) (tgt e c) _ false) (owed (payNo e k + 1) c) (owed_step e k c) (W := W)
      (by rw [payload_s]; exact BI.Entails.refl _)
      (by
        rw [payload_r]
        unfold recvPay
        have h : src e (k.val + 1) (tgt e c) = src e k.val c := by
          show src e k.val (frm e (tgt e c)) = _
          rw [frm_tgt]
        rw [h]
        exact Entails.of_eq (landing e k.castSucc k.succ (tgt e c) _ f))) $$ [HsL' Hd' HO HtS HtR]
  · isplitr; · iexact HIs
    isplitr; · iexact HIr
    isplitl [HsL']; · iexact HsL'
    isplitl [Hd']; · iexact Hd'
    isplitl [HO]; · iexact HO
    isplitl [HtS]; · iexact HtS
    isplitr; · iexact HrS
    isplitl [HtR]; · iexact HtR
    iexact HrR
  iintro ⟨HcS, HO⟩
  iapply HQ
  isplitl [HO]; · iexists W; iexact HO
  isplitl [HatS HcS HatR HcR]
  · isplitl [HatS]; · iexact HatS
    isplitl [HcS]; · iexact HcS
    isplitl [HatR]; · iexact HatR
    iexact HcR
  iexact HsR

/-- A wait on one of the kernel's own semaphores. -/
theorem wp_wait_x (s : DmaSem sig) (hs : isX s = true) (n : ℕ) (hm : (levAts L lv : sProp 𝕄) ⊢ MayWait (c : Thread nD τ) (.dma s) () (owed n c))
    {a b : Memref sig .tc .vmem S528x256 .bf16} {ha : a.view.WordExact} {hb : b.view.WordExact} (hN : b.view.dmaCredit = N)
    {α : Type} {Q : α → sProp 𝕄} {p : PUnit → Prog (TpuEff nD τ sig (Elt F) Λ₀ .tc) α} :
    iprop(recs I κ c ∗ cellInv ER (rd I) (κ ((c : Thread nD τ), .dma s)) ((c : Thread nD τ), .dma s) ∗ owesN n c
        ∗ atPos ER ((c : Thread nD τ), .dma s) 0 ∅ 0 ∗ cred (tallyAt ((c : Thread nD τ), .dma s) () N))
      ⊢ iprop(((owesN n c ∗ atPos ER ((c : Thread nD τ), .dma s) (0 + 1) ∅ 0 ∗ (rd I).payload ((c : Thread nD τ), .dma s) 0 false) -∗ wpK c (p ⟨⟩) Q)
        -∗ wpK c (.op (.waitDma2 s a b ha hb) p) Q) := by
  unfold owesN
  iintro ⟨#HR, #HI, ⟨%W, HO⟩, Hat, Hc⟩ HQ
  iapply (Rounds.wp_wait_rest_token 𝒱₀ ER (rd I) (c : Thread nD τ) none (κ := κ ((c : Thread nD τ), .dma s))
      (wpE_waitDma2_eq 𝒱₀ (c : Thread nD τ) none Set.univ) (Set.mem_univ _) () (O := owed n c) (W := W) (R := 0) (m := 0) (T := ∅)
      (by rw [Nat.zero_add, hN, expect_x (packed I) c s hs])) $$ [Hc HO Hat]
  · isplitr; · iexact HI
    isplitl [Hc]; · iexact Hc
    isplitl [HO]; · iexact HO
    isplitr; · iapply hm; iapply (recs_lev I κ c); iexact HR
    iexact Hat
  iintro ⟨HO, Hat, -, Hpay⟩
  ihave Hp := (Entails.of_eq (rest_x (packed I) c s hs)) $$ Hpay
  iapply HQ
  isplitl [HO]; · iexists _; iexact HO
  isplitl [Hat]; · iexact Hat
  iexact Hp

/-- What may be owed at the wait for hop `k`. -/
theorem mayWait_r (e : Bool) (k : Fin 3) : (levAts L lv : sProp 𝕄) ⊢ MayWait (c : Thread nD τ) (.dma (rS e k)) () (owed (4 + 2 * k.val) c) := by
  fin_cases k
  · exact mayWait_r0 e c
  · exact mayWait_r1 e c
  · show _ ⊢ MayWait (c : Thread nD τ) (.dma (rS e 2)) () (owed 8 c)
    rw [owed_8, MayWait_zero]; iintro -; iempintro

/-- The wait for the copy of hop `k` into the own slot `k + 1`. -/
theorem wp_recv (e : Bool) (k : Fin 3) (n : ℕ) (hn : n = 4 + 2 * k.val)
    {ha : (slotM e k.castSucc).view.WordExact} {hb : (slotM e k.succ).view.WordExact}
    {α : Type} {Q : α → sProp 𝕄} {p : PUnit → Prog (TpuEff nD τ sig (Elt F) Λ₀ .tc) α} :
    iprop(recs I κ c ∗ owesN n c ∗ hopB e k c)
      ⊢ iprop(((owesN n c ∗ hopC e k c ∗ slotAt I e k.succ fullShare c) -∗ wpK c (p ⟨⟩) Q)
        -∗ wpK c (.op (.waitDma2 (rS e k) (slotM e k.castSucc) (slotM e k.succ) ha hb) p) Q) := by
  subst hn
  unfold hopB hopC
  iintro ⟨#HR, HO, HatS, HcS, HatR, HcR⟩ HQ
  ihave #HR0 := (recs_ring I κ e k c) $$ HR
  unfold ringRecs
  icases HR0 with ⟨-, #HI, -⟩
  iapply (wp_wait_x I κ c (rS e k) (isX_r e k) (4 + 2 * k.val) (mayWait_r c e k) (credit_eq e k.succ)) $$ [HO HatR HcR]
  · isplitr; · iexact HR
    isplitr; · iexact HI
    isplitl [HO]; · iexact HO
    isplitl [HatR]; · iexact HatR
    iexact HcR
  iintro ⟨HO, HatR, Hp⟩
  iapply HQ
  isplitl [HO]; · iexact HO
  isplitl [HatS HcS HatR]
  · isplitl [HatS]; · iexact HatS
    isplitl [HcS]; · iexact HcS
    iexact HatR
  ihave Hq := (Entails.of_eq (payload_r (packed I) c e k false)) $$ Hp
  unfold recvPay
  iexact Hq

/-- The wait for the own copy of hop `k`: slot `k` is whole again. -/
theorem wp_sent (e : Bool) (k : Fin 3)
    {ha : (slotM e k.succ).view.WordExact} {hb : (slotM e k.castSucc).view.WordExact}
    {α : Type} {Q : α → sProp 𝕄} {p : PUnit → Prog (TpuEff nD τ sig (Elt F) Λ₀ .tc) α} :
    iprop(recs I κ c ∗ owesN 8 c ∗ hopC e k c ∗ slotAt I e k.castSucc fullShare.right c)
      ⊢ iprop(((owesN 8 c ∗ hopD e k c ∗ slotAt I e k.castSucc fullShare c) -∗ wpK c (p ⟨⟩) Q)
        -∗ wpK c (.op (.waitDma2 (sS e k) (slotM e k.succ) (slotM e k.castSucc) ha hb) p) Q) := by
  unfold hopC hopD
  iintro ⟨#HR, HO, ⟨HatS, HcS, HatR⟩, Hs⟩ HQ
  ihave #HR0 := (recs_ring I κ e k c) $$ HR
  unfold ringRecs
  icases HR0 with ⟨#HI, -⟩
  iapply (wp_wait_x I κ c (sS e k) (isX_s e k) 8 (by rw [owed_8, MayWait_zero]; iintro -; iempintro) (credit_eq e k.castSucc)) $$ [HO HatS HcS]
  · isplitr; · iexact HR
    isplitr; · iexact HI
    isplitl [HO]; · iexact HO
    isplitl [HatS]; · iexact HatS
    iexact HcS
  iintro ⟨HO, HatS, Hp⟩
  iapply HQ
  isplitl [HO]; · iexact HO
  isplitl [HatS HatR]
  · isplitl [HatS]; · iexact HatS
    iexact HatR
  ihave Hq := (Entails.of_eq (payload_s (packed I) c e k false)) $$ Hp
  unfold sendPay
  iapply (slot_halves e k.castSucc c _).2
  isplitl [Hq]; · iexact Hq
  iexact Hs

/-- After the barrier a ring's three hops are ready. -/
theorem hops_ready (e : Bool) :
    iprop(barPay (F := F) e c ∗ hop0 e 0 c ∗ hop0 e 1 c ∗ hop0 e 2 c) ⊢ iprop(hopA (F := F) e 0 c ∗ hopA e 1 c ∗ hopA e 2 c) := by
  unfold barPay hopA
  iintro ⟨⟨H1, H2, H3, #R0, #R1, #R2⟩, A, B, C⟩
  isplitl [H1 A]
  · isplitl [A]; · iexact A
    isplitl [H1]; · iexact H1
    iexact R0
  isplitl [H2 B]
  · isplitl [B]; · iexact B
    isplitl [H2]; · iexact H2
    iexact R1
  isplitl [C]; · iexact C
  isplitl [H3]; · iexact H3
  iexact R2

end Talk

/-! ## The semaphore arrays' elements -/

theorem sem_s_true0 : ((cc0_scratch2.slice (Rect.unit (s := S3) ![0] S1.size inb_S3_S1_0)).squeeze S_ squeezes_S1_S_).sem = sS true 0 := rfl
theorem sem_s_true1 : ((cc0_scratch2.slice (Rect.unit (s := S3) ![1] S1.size inb_S3_S1_1)).squeeze S_ squeezes_S1_S_).sem = sS true 1 := rfl
theorem sem_s_true2 : ((cc0_scratch2.slice (Rect.unit (s := S3) ![2] S1.size inb_S3_S1_2)).squeeze S_ squeezes_S1_S_).sem = sS true 2 := rfl
theorem sem_r_true0 : ((cc0_scratch3.slice (Rect.unit (s := S3) ![0] S1.size inb_S3_S1_0)).squeeze S_ squeezes_S1_S_).sem = rS true 0 := rfl
theorem sem_r_true1 : ((cc0_scratch3.slice (Rect.unit (s := S3) ![1] S1.size inb_S3_S1_1)).squeeze S_ squeezes_S1_S_).sem = rS true 1 := rfl
theorem sem_r_true2 : ((cc0_scratch3.slice (Rect.unit (s := S3) ![2] S1.size inb_S3_S1_2)).squeeze S_ squeezes_S1_S_).sem = rS true 2 := rfl
theorem sem_s_false0 : ((cc0_scratch4.slice (Rect.unit (s := S3) ![0] S1.size inb_S3_S1_0)).squeeze S_ squeezes_S1_S_).sem = sS false 0 := rfl
theorem sem_s_false1 : ((cc0_scratch4.slice (Rect.unit (s := S3) ![1] S1.size inb_S3_S1_1)).squeeze S_ squeezes_S1_S_).sem = sS false 1 := rfl
theorem sem_s_false2 : ((cc0_scratch4.slice (Rect.unit (s := S3) ![2] S1.size inb_S3_S1_2)).squeeze S_ squeezes_S1_S_).sem = sS false 2 := rfl
theorem sem_r_false0 : ((cc0_scratch5.slice (Rect.unit (s := S3) ![0] S1.size inb_S3_S1_0)).squeeze S_ squeezes_S1_S_).sem = rS false 0 := rfl
theorem sem_r_false1 : ((cc0_scratch5.slice (Rect.unit (s := S3) ![1] S1.size inb_S3_S1_1)).squeeze S_ squeezes_S1_S_).sem = rS false 1 := rfl
theorem sem_r_false2 : ((cc0_scratch5.slice (Rect.unit (s := S3) ![2] S1.size inb_S3_S1_2)).squeeze S_ squeezes_S1_S_).sem = rS false 2 := rfl

end Cert.KernelIdealProof

end
-- ==== Proof.Ends.lean ====
/-
The loads and stores of whole buffers, and the moves of a hop at slots given by their numbers.
-/
module

public import proofs.«01_k».proof.Proof.Moves

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The end of a part: its results, under the names they have here. -/
theorem wp_done (c : Dev nD) {α : Type} {Q : α → sProp 𝕄} (x : α) : Q x ⊢ wpK c (.ret x) Q := le_wp_ret _ _ _ _ _

theorem zero2 : (![0, 0] : Fin 2 → Nat) = fun _ => 0 := by funext a; fin_cases a <;> rfl

section Whole

variable (I : Ins F) (c : Dev nD)

abbrev xPts : sProp 𝕄 := stg c cc0_stg0_0 (I.x c)
abbrev wqPts : sProp 𝕄 := stg c cc0_stg1_0 (I.wq c)
abbrev woPts : sProp 𝕄 := stg c cc0_stg2_0 (I.wo c)

theorem wp_x {hin : ∀ a, (![0, 0] : Fin 2 → Nat) a + S512x768.size a ≤ S512x768.size a}
    {hl : (Memref.whole cc0_stg0_0).view.LoadsAt (Rect.unit (s := S512x768) ![0, 0] S512x768.size hin).toLoadRect}
    {α : Type} {Q : α → sProp 𝕄} {k : Vec F S512x768 .f32 → Prog (TpuEff nD τ sig (Elt F) Λ₀ .tc) α} :
    xPts I c ⊢ iprop((xPts I c -∗ wpK c (k (I.x c)) Q)
      -∗ wpK c (.op (.load (Memref.whole cc0_stg0_0) (Rect.unit (s := S512x768) ![0, 0] S512x768.size hin).toLoadRect hl) k) Q) := by
  have h : (Memref.whole cc0_stg0_0).view.readAt (Elt F) (Rect.unit (s := S512x768) ![0, 0] S512x768.size hin).toLoadRect (I.x c) = I.x c :=
    Memref.readAt_unit_zero (Elt F) cc0_stg0_0 zero2 hin (I.x c)
  conv => rhs; arg 1; arg 2; rw [← h]
  exact wp_load 𝒱₀ (c : Thread nD τ) none Set.univ (m := Memref.whole cc0_stg0_0) (Finset.subset_univ _)

theorem wp_wq {hin : ∀ a, (![0, 0] : Fin 2 → Nat) a + S768x512.size a ≤ S768x512.size a}
    {hl : (Memref.whole cc0_stg1_0).view.LoadsAt (Rect.unit (s := S768x512) ![0, 0] S768x512.size hin).toLoadRect}
    {α : Type} {Q : α → sProp 𝕄} {k : Vec F S768x512 .f32 → Prog (TpuEff nD τ sig (Elt F) Λ₀ .tc) α} :
    wqPts I c ⊢ iprop((wqPts I c -∗ wpK c (k (I.wq c)) Q)
      -∗ wpK c (.op (.load (Memref.whole cc0_stg1_0) (Rect.unit (s := S768x512) ![0, 0] S768x512.size hin).toLoadRect hl) k) Q) := by
  have h : (Memref.whole cc0_stg1_0).view.readAt (Elt F) (Rect.unit (s := S768x512) ![0, 0] S768x512.size hin).toLoadRect (I.wq c) = I.wq c :=
    Memref.readAt_unit_zero (Elt F) cc0_stg1_0 zero2 hin (I.wq c)
  conv => rhs; arg 1; arg 2; rw [← h]
  exact wp_load 𝒱₀ (c : Thread nD τ) none Set.univ (m := Memref.whole cc0_stg1_0) (Finset.subset_univ _)

theorem wp_wo {hin : ∀ a, (![0, 0] : Fin 2 → Nat) a + S512x768.size a ≤ S512x768.size a}
    {hl : (Memref.whole cc0_stg2_0).view.LoadsAt (Rect.unit (s := S512x768) ![0, 0] S512x768.size hin).toLoadRect}
    {α : Type} {Q : α → sProp 𝕄} {k : Vec F S512x768 .f32 → Prog (TpuEff nD τ sig (Elt F) Λ₀ .tc) α} :
    woPts I c ⊢ iprop((woPts I c -∗ wpK c (k (I.wo c)) Q)
      -∗ wpK c (.op (.load (Memref.whole cc0_stg2_0) (Rect.unit (s := S512x768) ![0, 0] S512x768.size hin).toLoadRect hl) k) Q) := by
  have h : (Memref.whole cc0_stg2_0).view.readAt (Elt F) (Rect.unit (s := S512x768) ![0, 0] S512x768.size hin).toLoadRect (I.wo c) = I.wo c :=
    Memref.readAt_unit_zero (Elt F) cc0_stg2_0 zero2 hin (I.wo c)
  conv => rhs; arg 1; arg 2; rw [← h]
  exact wp_load 𝒱₀ (c : Thread nD τ) none Set.univ (m := Memref.whole cc0_stg2_0) (Finset.subset_univ _)

/-- The unread load of the output buffer, then the store of the result over the whole of it. -/
theorem wp_out (f : Vec F S512x768 .f32) (w : Vec F S512x768 .f32)
    {hin : ∀ a, (![0, 0] : Fin 2 → Nat) a + S512x768.size a ≤ S512x768.size a}
    {hl : (Memref.whole cc0_stg5_0).view.LoadsAt (Rect.unit (s := S512x768) ![0, 0] S512x768.size hin).toLoadRect}
    {hx : ((Memref.whole cc0_stg5_0).access (Rect.unit (s := S512x768) ![0, 0] S512x768.size hin)).Stores Finset.univ}
    {hm : Finset.univ = Finset.univ ∨ ∀ a, (Rect.unit (s := S512x768) ![0, 0] S512x768.size hin).stride a = 1}
    {α : Type} {Q : α → sProp 𝕄} {k : PUnit → Prog (TpuEff nD τ sig (Elt F) Λ₀ .tc) α} :
    stg c cc0_stg5_0 f ⊢ iprop((stg c cc0_stg5_0 w -∗ wpK c (k ⟨⟩) Q)
      -∗ wpK c (.op (.load (Memref.whole cc0_stg5_0) (Rect.unit (s := S512x768) ![0, 0] S512x768.size hin).toLoadRect hl) fun _ =>
        .op (.store (Memref.whole cc0_stg5_0) (Rect.unit (s := S512x768) ![0, 0] S512x768.size hin) w Finset.univ hx hm) k) Q) := by
  have h : ((Memref.whole cc0_stg5_0).access (Rect.unit (s := S512x768) ![0, 0] S512x768.size hin)).write (Elt F) f w Finset.univ = w :=
    Memref.write_access_unit_zero_univ (Elt F) cc0_stg5_0 zero2 hin f w
  iintro H HQ
  iapply (wp_load 𝒱₀ (c : Thread nD τ) none Set.univ (m := Memref.whole cc0_stg5_0) (Finset.subset_univ _)) $$ H
  iintro H
  iapply (wp_store 𝒱₀ (c : Thread nD τ) none Set.univ (m := Memref.whole cc0_stg5_0)
    (r := Rect.unit (s := S512x768) ![0, 0] S512x768.size hin) (Mk := Finset.univ) (S := Finset.univ) (f := f) (Finset.subset_univ _)) $$ H
  iintro H
  iapply HQ
  ihave H' := (Entails.of_eq (congrArg (fun g => (stg c cc0_stg5_0 g : sProp 𝕄)) h)) $$ H
  iexact H'

end Whole

section Hops

variable (I : Ins F) (κ : GSem nD τ sig → ℕ) (c : Dev nD)

/-- The packed result, once complete, is what slot 0 is sent with. -/
theorem slotAt_zero (e : Bool) : fillPts I e 8 8 8 c ⊢ slotAt I e 0 fullShare c := fillPts_full I e c

theorem send_hop (e : Bool) (k : Fin 3) (s s' : Fin 4) (hs : s = k.castSucc) (hs' : s' = k.succ) (n : ℕ) (hn : n = payNo e k)
    (t : Dev nD) (ht : t = tgt e c)
    {hsc : (slotM e s' : Memref sig (Dev.tc t : Thread nD τ).2.kind .vmem S528x256 .bf16).view.ref.isScScratch = false}
    {hsrc : (slotM e s).view.WordExact} {hdst : (slotM e s').view.WordExact}
    {hsem : DmaTarget.Typed .vmem (.dma (rS e k)) (.remote (Dev.tc t : Thread nD τ) (slotM e s') (.dma (sS e k)) hsc)}
    {α : Type} {Q : α → sProp 𝕄} {p : PUnit → Prog (TpuEff nD τ sig (Elt F) Λ₀ .tc) α} :
    iprop(recs I κ c ∗ owesN n c ∗ hopA e k c ∗ slotAt I e s fullShare c)
      ⊢ iprop(((owesN (n + 1) c ∗ hopB e k c ∗ slotAt I e s fullShare.right c) -∗ wpK c (p ⟨⟩) Q)
        -∗ wpK c (.op (.enqueueDma (slotM e s) (.remote (Dev.tc t : Thread nD τ) (slotM e s') (.dma (sS e k)) hsc)
          (.dma (rS e k)) hsrc hdst hsem) p) Q) := by
  subst hs hs'
  exact wp_send I κ c e k n hn t ht

theorem recv_hop (e : Bool) (k : Fin 3) (s s' : Fin 4) (hs : s = k.castSucc) (hs' : s' = k.succ) (n : ℕ) (hn : n = 4 + 2 * k.val)
    {ha : (slotM e s).view.WordExact} {hb : (slotM e s').view.WordExact}
    {α : Type} {Q : α → sProp 𝕄} {p : PUnit → Prog (TpuEff nD τ sig (Elt F) Λ₀ .tc) α} :
    iprop(recs I κ c ∗ owesN n c ∗ hopB e k c)
      ⊢ iprop(((owesN n c ∗ hopC e k c ∗ slotAt I e s' fullShare c) -∗ wpK c (p ⟨⟩) Q)
        -∗ wpK c (.op (.waitDma2 (rS e k) (slotM e s) (slotM e s') ha hb) p) Q) := by
  subst hs hs'
  exact wp_recv I κ c e k n hn

theorem sent_hop (e : Bool) (k : Fin 3) (s s' : Fin 4) (hs : s = k.castSucc) (hs' : s' = k.succ)
    {ha : (slotM e s').view.WordExact} {hb : (slotM e s).view.WordExact}
    {α : Type} {Q : α → sProp 𝕄} {p : PUnit → Prog (TpuEff nD τ sig (Elt F) Λ₀ .tc) α} :
    iprop(recs I κ c ∗ owesN 8 c ∗ hopC e k c ∗ slotAt I e s fullShare.right c)
      ⊢ iprop(((owesN 8 c ∗ hopD e k c ∗ slotAt I e s fullShare c) -∗ wpK c (p ⟨⟩) Q)
        -∗ wpK c (.op (.waitDma2 (sS e k) (slotM e s') (slotM e s) ha hb) p) Q) := by
  subst hs hs'
  exact wp_sent I κ c e k

/-- The load of an arrived slot. -/
theorem read_hop (e : Bool) (s : Fin 4) (q : PosShare TreeShare)
    {hin : ∀ b, (![s.val, 0, 0] : Fin 3 → Nat) b + S1x528x256.size b ≤ S4x528x256.size b}
    {hl : (bufM e).view.LoadsAt (Rect.unit (s := S4x528x256) ![s.val, 0, 0] S1x528x256.size hin).toLoadRect}
    {α : Type} {Q : α → sProp 𝕄} {k : Vec F S1x528x256 .bf16 → Prog (TpuEff nD τ sig (Elt F) Λ₀ .tc) α} :
    slotAt I e s q c ⊢ iprop((slotAt I e s q c -∗ wpK c (k (slotV (packed I e (src e s.val c)))) Q)
      -∗ wpK c (.op (.load (bufM e) (Rect.unit (s := S4x528x256) ![s.val, 0, 0] S1x528x256.size hin).toLoadRect hl) k) Q) :=
  wp_slot c e s q (packed I e (src e s.val c))

end Hops

end Cert.KernelIdealProof

end
-- ==== Proof.PartsA.lean ====
/-
The first half of the body, part by part: the barrier, the two batches' own heads packed into slot 0, and the
first copies round both rings. Each theorem says what a part takes, what it gives back, and its results by name.
-/
module

public import proofs.«01_k».proof.Proof.Ends

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

theorem part1 {Q : (Σ' (d0 : Dev nD) (v5 : BitVec 32) (v7 : BitVec 32) (v17 : FVec F S512x512 .f32) (v22 : FVec F S512x64 .f32) (v25 : FVec F S512x256 .f32), FVec F S1x256 .bf16) → sProp 𝕄} (f1 f2 f3 g1 g2 g3) :
    iprop(recs I κ c ∗ owesN 0 c ∗ (dutyTok ER (barCell (frm true c)) 0 true ∗ dutyTok ER (barCell (frm false c)) 0 false)
        ∗ (slotPts true 1 fullShare c f1 ∗ slotPts true 2 fullShare c f2 ∗ slotPts true 3 fullShare c f3)
        ∗ (slotPts false 1 fullShare c g1 ∗ slotPts false 2 fullShare c g2 ∗ slotPts false 3 fullShare c g3)
        ∗ (atPos ER (barCell c) 0 ∅ 0 ∗ cred (tallyAt (barCell c) () 2)) ∗ xPts I c ∗ wqPts I c ∗ kPts I c ∗ vPts I c)
      ⊢ iprop((∀ w5 w7, (owesN 2 c ∗ (atPos ER (barCell c) (0 + 1) ∅ 0 ∗ barPay (F := F) true c ∗ barPay (F := F) false c)
            ∗ xPts I c ∗ wqPts I c ∗ kPts I c ∗ vPts I c)
          -∗ Q ⟨c, w5, w7, qMat I c, vBlk I c true 0, sT I c true 0, mB I c true 0⟩)
        -∗ wpK c (k0_part1 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5) Q) := by
  rw [k0_part1_eq_skeleton]; unfold k0_part1_skel
  simp only [semSignalWord, semWaitWord, Prog.lift, Prog.bind_op, Prog.bind_ret, Prog.pure_eq_ret, wp_deviceId]
  iintro ⟨#HR, HO, ⟨HtT, HtF⟩, ⟨H1, H2, H3⟩, ⟨G1, G2, G3⟩, ⟨Hat, Hc⟩, HX, HW, HK, HV⟩ HQ
  iapply (wp_bar_signal I κ c true 0 rfl _ (dev1_eq c) (by decide) f1 f2 f3) $$ [HO HtT H1 H2 H3]
  · isplitr; · iexact HR
    isplitl [HO]; · iexact HO
    isplitl [HtT]; · iexact HtT
    isplitl [H1]; · iexact H1
    isplitl [H2]; · iexact H2
    iexact H3
  iintro HO
  iapply (wp_bar_signal I κ c false 1 rfl _ (dev2_eq c) (by decide) g1 g2 g3) $$ [HO HtF G1 G2 G3]
  · isplitr; · iexact HR
    isplitl [HO]; · iexact HO
    isplitl [HtF]; · iexact HtF
    isplitl [G1]; · iexact G1
    isplitl [G2]; · iexact G2
    iexact G3
  iintro HO
  iapply (wp_bar_wait I κ c (by decide)) $$ [HO Hat Hc]
  · isplitr; · iexact HR
    isplitl [HO]; · iexact HO
    isplitl [Hat]; · iexact Hat
    iexact Hc
  iintro ⟨HO, Hb⟩
  iapply (wp_x I c) $$ HX; iintro HX
  iapply (wp_wq I c) $$ HW; iintro HW
  iapply (wp_k I c true 0) $$ HK; iintro HK
  iapply (wp_v I c true 0) $$ HV; iintro HV
  have hv := fun w5 w7 => wp_done (Q := Q) c ⟨c, w5, w7, qMat I c, vBlk I c true 0, sT I c true 0, mB I c true 0⟩
  iapply (hv _ _)
  iapply HQ
  isplitl [HO]; · iexact HO
  isplitl [Hb]; · iexact Hb
  isplitl [HX]; · iexact HX
  isplitl [HW]; · iexact HW
  isplitl [HK]; · iexact HK
  iexact HV

theorem part2 {Q : (Σ' (v29 : FVec F S1x256 .f32) (v34 : FVec F S1x256 .f32) (v35 : FVec F S64x256 .f32) (v59 : FVec F S1x256 .f32) (v64 : FVec F S1x256 .f32), FVec F S64x256 .f32) → sProp 𝕄} :
    iprop(fillPts I true 0 0 0 c ∗ kPts I c ∗ vPts I c)
      ⊢ iprop(((fillPts I true 1 1 1 c ∗ kPts I c ∗ vPts I c) -∗ Q ⟨mV I c true 0, lV I c true 0, oV I c true 0, mV I c true 1, lV I c true 1, oV I c
    true 1⟩)
        -∗ wpK c (k0_part2 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (vBlk I c true 0) (sT I c true 0) (mB I c true 0)) Q) := by
  rw [k0_part2_eq_skeleton]; unfold k0_part2_skel
  simp only [storeSubelements, Prog.lift, Prog.bind_op, Prog.bind_ret, Prog.pure_eq_ret]
  iintro ⟨HFT, HK, HV⟩ HQ
  have hv := wp_done (Q := Q) c ⟨mV I c true 0, lV I c true 0, oV I c true 0, mV I c true 1, lV I c true 1, oV I c true 1⟩
  iapply (wp_dead I c true 0 0 0 0 64) $$ HFT; iintro %_ HFT
  iapply (wp_o I c true 0 0 0 0 rfl rfl) $$ HFT; iintro HFT
  iapply (wp_dead I c true 1 0 0 512 1) $$ HFT; iintro %_ HFT
  iapply (wp_m I c true 0 1 0 0 rfl rfl) $$ HFT; iintro HFT
  iapply (wp_dead I c true 1 1 0 520 1) $$ HFT; iintro %_ HFT
  iapply (wp_l I c true 0 1 1 0 rfl rfl) $$ HFT; iintro HFT
  iapply (wp_k I c true 1) $$ HK; iintro HK
  iapply (wp_v I c true 1) $$ HV; iintro HV
  iapply hv
  iapply HQ
  isplitl [HFT]; · iexact HFT
  isplitl [HK]; · iexact HK
  iexact HV

theorem part3 {Q : (Σ' (v89 : FVec F S1x256 .f32) (v94 : FVec F S1x256 .f32) (v95 : FVec F S64x256 .f32), FVec F S1x256 .bf16) → sProp 𝕄} :
    iprop(fillPts I true 1 1 1 c ∗ kPts I c ∗ vPts I c)
      ⊢ iprop(((fillPts I true 3 2 2 c ∗ kPts I c ∗ vPts I c) -∗ Q ⟨mV I c true 2, lV I c true 2, oV I c true 2, mBB I c true 2⟩)
        -∗ wpK c (k0_part3 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (mV I c true 1) (lV I c true 1) (oV I c true 1)) Q) := by
  rw [k0_part3_eq_skeleton]; unfold k0_part3_skel
  simp only [storeSubelements, Prog.lift, Prog.bind_op, Prog.bind_ret, Prog.pure_eq_ret]
  iintro ⟨HFT, HK, HV⟩ HQ
  have hv := wp_done (Q := Q) c ⟨mV I c true 2, lV I c true 2, oV I c true 2, mBB I c true 2⟩
  iapply (wp_dead I c true 1 1 1 64 64) $$ HFT; iintro %_ HFT
  iapply (wp_o I c true 1 1 1 1 rfl rfl) $$ HFT; iintro HFT
  iapply (wp_dead I c true 2 1 1 513 1) $$ HFT; iintro %_ HFT
  iapply (wp_m I c true 1 2 1 1 rfl rfl) $$ HFT; iintro HFT
  iapply (wp_dead I c true 2 2 1 521 1) $$ HFT; iintro %_ HFT
  iapply (wp_l I c true 1 2 2 1 rfl rfl) $$ HFT; iintro HFT
  iapply (wp_k I c true 2) $$ HK; iintro HK
  iapply (wp_v I c true 2) $$ HV; iintro HV
  iapply (wp_dead I c true 2 2 2 128 64) $$ HFT; iintro %_ HFT
  iapply (wp_o I c true 2 2 2 2 rfl rfl) $$ HFT; iintro HFT
  iapply hv
  iapply HQ
  isplitl [HFT]; · iexact HFT
  isplitl [HK]; · iexact HK
  iexact HV

theorem part4 {Q : (Σ' (v119 : FVec F S1x256 .f32) (v124 : FVec F S1x256 .f32) (v125 : FVec F S64x256 .f32), FVec F S1x256 .bf16) → sProp 𝕄} :
    iprop(fillPts I true 3 2 2 c ∗ kPts I c ∗ vPts I c)
      ⊢ iprop(((fillPts I true 4 4 3 c ∗ kPts I c ∗ vPts I c) -∗ Q ⟨mV I c true 3, lV I c true 3, oV I c true 3, lB I c true 3⟩)
        -∗ wpK c (k0_part4 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (lV I c true 2) (mBB I c true 2)) Q) := by
  rw [k0_part4_eq_skeleton]; unfold k0_part4_skel
  simp only [storeSubelements, Prog.lift, Prog.bind_op, Prog.bind_ret, Prog.pure_eq_ret]
  iintro ⟨HFT, HK, HV⟩ HQ
  have hv := wp_done (Q := Q) c ⟨mV I c true 3, lV I c true 3, oV I c true 3, lB I c true 3⟩
  iapply (wp_dead I c true 3 2 2 514 1) $$ HFT; iintro %_ HFT
  iapply (wp_m I c true 2 3 2 2 rfl rfl) $$ HFT; iintro HFT
  iapply (wp_dead I c true 3 3 2 522 1) $$ HFT; iintro %_ HFT
  iapply (wp_l I c true 2 3 3 2 rfl rfl) $$ HFT; iintro HFT
  iapply (wp_k I c true 3) $$ HK; iintro HK
  iapply (wp_v I c true 3) $$ HV; iintro HV
  iapply (wp_dead I c true 3 3 3 192 64) $$ HFT; iintro %_ HFT
  iapply (wp_o I c true 3 3 3 3 rfl rfl) $$ HFT; iintro HFT
  iapply (wp_dead I c true 4 3 3 515 1) $$ HFT; iintro %_ HFT
  iapply (wp_m I c true 3 4 3 3 rfl rfl) $$ HFT; iintro HFT
  iapply hv
  iapply HQ
  isplitl [HFT]; · iexact HFT
  isplitl [HK]; · iexact HK
  iexact HV

theorem part5 {Q : (Σ' (v149 : FVec F S1x256 .f32) (v154 : FVec F S1x256 .f32) (v155 : FVec F S64x256 .f32), FVec F S256x64 .f32) → sProp 𝕄} :
    iprop(fillPts I true 4 4 3 c ∗ kPts I c ∗ vPts I c)
      ⊢ iprop(((fillPts I true 5 5 5 c ∗ kPts I c ∗ vPts I c) -∗ Q ⟨mV I c true 4, lV I c true 4, oV I c true 4, qBlk I c true 5⟩)
        -∗ wpK c (k0_part5 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (lB I c true 3)) Q) := by
  rw [k0_part5_eq_skeleton]; unfold k0_part5_skel
  simp only [storeSubelements, Prog.lift, Prog.bind_op, Prog.bind_ret, Prog.pure_eq_ret]
  iintro ⟨HFT, HK, HV⟩ HQ
  have hv := wp_done (Q := Q) c ⟨mV I c true 4, lV I c true 4, oV I c true 4, qBlk I c true 5⟩
  iapply (wp_dead I c true 4 4 3 523 1) $$ HFT; iintro %_ HFT
  iapply (wp_l I c true 3 4 4 3 rfl rfl) $$ HFT; iintro HFT
  iapply (wp_k I c true 4) $$ HK; iintro HK
  iapply (wp_v I c true 4) $$ HV; iintro HV
  iapply (wp_dead I c true 4 4 4 256 64) $$ HFT; iintro %_ HFT
  iapply (wp_o I c true 4 4 4 4 rfl rfl) $$ HFT; iintro HFT
  iapply (wp_dead I c true 5 4 4 516 1) $$ HFT; iintro %_ HFT
  iapply (wp_m I c true 4 5 4 4 rfl rfl) $$ HFT; iintro HFT
  iapply (wp_dead I c true 5 5 4 524 1) $$ HFT; iintro %_ HFT
  iapply (wp_l I c true 4 5 5 4 rfl rfl) $$ HFT; iintro HFT
  iapply hv
  iapply HQ
  isplitl [HFT]; · iexact HFT
  isplitl [HK]; · iexact HK
  iexact HV

theorem part6 {Q : (Σ' (v179 : FVec F S1x256 .f32) (v184 : FVec F S1x256 .f32) (v185 : FVec F S64x256 .f32) (v202 : FVec F S512x64 .f32) (v203 : FVec F S512x256 .f32), F .f32) → sProp 𝕄} :
    iprop(kPts I c ∗ vPts I c ∗ fillPts I true 5 5 5 c)
      ⊢ iprop(((kPts I c ∗ vPts I c ∗ fillPts I true 6 6 6 c) -∗ Q ⟨mV I c true 5, lV I c true 5, oV I c true 5, vBlk I c true 6, k0_pay56 (qMat I c)
    (headBlk (I.k c) true 6), Scalar.ofBits .f32 0x3E000000#32⟩)
        -∗ wpK c (k0_part6 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (qBlk I c true 5)) Q) := by
  rw [k0_part6_eq_skeleton]; unfold k0_part6_skel
  simp only [storeSubelements, Prog.lift, Prog.bind_op, Prog.bind_ret, Prog.pure_eq_ret]
  iintro ⟨HK, HV, HFT⟩ HQ
  have hv := wp_done (Q := Q) c ⟨mV I c true 5, lV I c true 5, oV I c true 5, vBlk I c true 6, k0_pay56 (qMat I c) (headBlk (I.k c) true 6),
    Scalar.ofBits .f32 0x3E000000#32⟩
  iapply (wp_k I c true 5) $$ HK; iintro HK
  iapply (wp_v I c true 5) $$ HV; iintro HV
  iapply (wp_dead I c true 5 5 5 320 64) $$ HFT; iintro %_ HFT
  iapply (wp_o I c true 5 5 5 5 rfl rfl) $$ HFT; iintro HFT
  iapply (wp_dead I c true 6 5 5 517 1) $$ HFT; iintro %_ HFT
  iapply (wp_m I c true 5 6 5 5 rfl rfl) $$ HFT; iintro HFT
  iapply (wp_dead I c true 6 6 5 525 1) $$ HFT; iintro %_ HFT
  iapply (wp_l I c true 5 6 6 5 rfl rfl) $$ HFT; iintro HFT
  iapply (wp_k I c true 6) $$ HK; iintro HK
  iapply (wp_v I c true 6) $$ HV; iintro HV
  iapply hv
  iapply HQ
  isplitl [HK]; · iexact HK
  isplitl [HV]; · iexact HV
  iexact HFT

theorem part7 {Q : (Σ' (v209 : FVec F S1x256 .f32) (v214 : FVec F S1x256 .f32) (v215 : FVec F S64x256 .f32) (v232 : FVec F S512x64 .f32) (v239 : FVec F S1x256 .f32), FVec F S512x256 .f32) → sProp 𝕄} :
    iprop(fillPts I true 6 6 6 c ∗ kPts I c ∗ vPts I c)
      ⊢ iprop(((fillPts I true 7 7 7 c ∗ kPts I c ∗ vPts I c) -∗ Q ⟨mV I c true 6, lV I c true 6, oV I c true 6, vBlk I c true 7, mV I c true 7,
    k0_pay68 (qMat I c) (headBlk (I.k c) true 7)⟩)
        -∗ wpK c (k0_part7 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (vBlk I c true 6) (k0_pay56 (qMat I c) (headBlk (I.k c)
    true 6)) (Scalar.ofBits .f32 0x3E000000#32)) Q) := by
  rw [k0_part7_eq_skeleton]; unfold k0_part7_skel
  simp only [storeSubelements, Prog.lift, Prog.bind_op, Prog.bind_ret, Prog.pure_eq_ret]
  iintro ⟨HFT, HK, HV⟩ HQ
  have hv := wp_done (Q := Q) c ⟨mV I c true 6, lV I c true 6, oV I c true 6, vBlk I c true 7, mV I c true 7, k0_pay68 (qMat I c) (headBlk (I.k c)
    true 7)⟩
  iapply (wp_dead I c true 6 6 6 384 64) $$ HFT; iintro %_ HFT
  iapply (wp_o I c true 6 6 6 6 rfl rfl) $$ HFT; iintro HFT
  iapply (wp_dead I c true 7 6 6 518 1) $$ HFT; iintro %_ HFT
  iapply (wp_m I c true 6 7 6 6 rfl rfl) $$ HFT; iintro HFT
  iapply (wp_dead I c true 7 7 6 526 1) $$ HFT; iintro %_ HFT
  iapply (wp_l I c true 6 7 7 6 rfl rfl) $$ HFT; iintro HFT
  iapply (wp_k I c true 7) $$ HK; iintro HK
  iapply (wp_v I c true 7) $$ HV; iintro HV
  iapply hv
  iapply HQ
  isplitl [HFT]; · iexact HFT
  isplitl [HK]; · iexact HK
  iexact HV

theorem part8 (w7 : BitVec 32) {Q : (Σ' (v244 : FVec F S1x256 .f32) (v245 : FVec F S64x256 .f32) (v268 : FVec F S256x64 .f32) (v270 : FVec F S512x64 .f32), FVec F S512x64 .f32) → sProp 𝕄} :
    iprop(recs I κ c ∗ fillPts I true 7 7 7 c ∗ owesN 2 c ∗ hopA true 0 c ∗ kPts I c ∗ vPts I c)
      ⊢ iprop(((owesN 3 c ∗ hopB true 0 c ∗ slotAt I true 0 fullShare.right c ∗ kPts I c ∗ vPts I c) -∗ Q ⟨lV I c true 7, oV I c true 7, qBlk I c
    false 0, kBlk I c false 0, vBlk I c false 0⟩)
        -∗ wpK c (k0_part8 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c w7 (qMat I c) (vBlk I c true 7) (mV I c true 7) (k0_pay68 (qMat I
    c) (headBlk (I.k c) true 7))) Q) := by
  rw [k0_part8_eq_skeleton]; unfold k0_part8_skel
  simp only [storeSubelements, Prog.lift, Prog.bind_op, Prog.bind_ret, Prog.pure_eq_ret]
  iintro ⟨#HR, HFT, HO, HhT0, HK, HV⟩ HQ
  have hv := wp_done (Q := Q) c ⟨lV I c true 7, oV I c true 7, qBlk I c false 0, kBlk I c false 0, vBlk I c false 0⟩
  iapply (wp_dead I c true 7 7 7 448 64) $$ HFT; iintro %_ HFT
  iapply (wp_o I c true 7 7 7 7 rfl rfl) $$ HFT; iintro HFT
  iapply (wp_dead I c true 8 7 7 519 1) $$ HFT; iintro %_ HFT
  iapply (wp_m I c true 7 8 7 7 rfl rfl) $$ HFT; iintro HFT
  iapply (wp_dead I c true 8 8 7 527 1) $$ HFT; iintro %_ HFT
  iapply (wp_l I c true 7 8 8 7 rfl rfl) $$ HFT; iintro HFT
  ihave HsT0 := (slotAt_zero I c true) $$ HFT
  iapply (send_hop I κ c true 0 0 1 rfl rfl 2 rfl _ (dev3_eq c)) $$ [HO HhT0 HsT0]
  · isplitr; · iexact HR
    isplitl [HO]; · iexact HO
    isplitl [HhT0]; · iexact HhT0
    iexact HsT0
  iintro ⟨HO, HhT0, HsT0⟩
  iapply (wp_k I c false 0) $$ HK; iintro HK
  iapply (wp_v I c false 0) $$ HV; iintro HV
  iapply hv
  iapply HQ
  isplitl [HO]; · iexact HO
  isplitl [HhT0]; · iexact HhT0
  isplitl [HsT0]; · iexact HsT0
  isplitl [HK]; · iexact HK
  iexact HV

theorem part9 {Q : (Σ' (v279 : FVec F S1x256 .f32) (v284 : FVec F S1x256 .f32) (v285 : FVec F S64x256 .f32) (v302 : FVec F S512x64 .f32) (v305 : FVec F S512x256 .f32), FVec F S1x256 .bf16) → sProp 𝕄} :
    iprop(fillPts I false 0 0 0 c ∗ kPts I c ∗ vPts I c)
      ⊢ iprop(((fillPts I false 1 1 1 c ∗ kPts I c ∗ vPts I c) -∗ Q ⟨mV I c false 0, lV I c false 0, oV I c false 0, vBlk I c false 1, sT I c false 1,
    mB I c false 1⟩)
        -∗ wpK c (k0_part9 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (qBlk I c false 0) (kBlk I c false 0) (vBlk I c false 0))
    Q) := by
  rw [k0_part9_eq_skeleton]; unfold k0_part9_skel
  simp only [storeSubelements, Prog.lift, Prog.bind_op, Prog.bind_ret, Prog.pure_eq_ret]
  iintro ⟨HFF, HK, HV⟩ HQ
  have hv := wp_done (Q := Q) c ⟨mV I c false 0, lV I c false 0, oV I c false 0, vBlk I c false 1, sT I c false 1, mB I c false 1⟩
  iapply (wp_dead I c false 0 0 0 0 64) $$ HFF; iintro %_ HFF
  iapply (wp_o I c false 0 0 0 0 rfl rfl) $$ HFF; iintro HFF
  iapply (wp_dead I c false 1 0 0 512 1) $$ HFF; iintro %_ HFF
  iapply (wp_m I c false 0 1 0 0 rfl rfl) $$ HFF; iintro HFF
  iapply (wp_dead I c false 1 1 0 520 1) $$ HFF; iintro %_ HFF
  iapply (wp_l I c false 0 1 1 0 rfl rfl) $$ HFF; iintro HFF
  iapply (wp_k I c false 1) $$ HK; iintro HK
  iapply (wp_v I c false 1) $$ HV; iintro HV
  iapply hv
  iapply HQ
  isplitl [HFF]; · iexact HFF
  isplitl [HK]; · iexact HK
  iexact HV

theorem part10 {Q : (Σ' (v309 : FVec F S1x256 .f32) (v314 : FVec F S1x256 .f32) (v315 : FVec F S64x256 .f32) (v339 : FVec F S1x256 .f32) (v344 : FVec F S1x256 .f32), FVec F S64x256 .f32) → sProp 𝕄} :
    iprop(fillPts I false 1 1 1 c ∗ kPts I c ∗ vPts I c)
      ⊢ iprop(((fillPts I false 2 2 2 c ∗ kPts I c ∗ vPts I c) -∗ Q ⟨mV I c false 1, lV I c false 1, oV I c false 1, mV I c false 2, lV I c false 2,
    oV I c false 2⟩)
        -∗ wpK c (k0_part10 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (vBlk I c false 1) (sT I c false 1) (mB I c false 1)) Q) := by
  rw [k0_part10_eq_skeleton]; unfold k0_part10_skel
  simp only [storeSubelements, Prog.lift, Prog.bind_op, Prog.bind_ret, Prog.pure_eq_ret]
  iintro ⟨HFF, HK, HV⟩ HQ
  have hv := wp_done (Q := Q) c ⟨mV I c false 1, lV I c false 1, oV I c false 1, mV I c false 2, lV I c false 2, oV I c false 2⟩
  iapply (wp_dead I c false 1 1 1 64 64) $$ HFF; iintro %_ HFF
  iapply (wp_o I c false 1 1 1 1 rfl rfl) $$ HFF; iintro HFF
  iapply (wp_dead I c false 2 1 1 513 1) $$ HFF; iintro %_ HFF
  iapply (wp_m I c false 1 2 1 1 rfl rfl) $$ HFF; iintro HFF
  iapply (wp_dead I c false 2 2 1 521 1) $$ HFF; iintro %_ HFF
  iapply (wp_l I c false 1 2 2 1 rfl rfl) $$ HFF; iintro HFF
  iapply (wp_k I c false 2) $$ HK; iintro HK
  iapply (wp_v I c false 2) $$ HV; iintro HV
  iapply hv
  iapply HQ
  isplitl [HFF]; · iexact HFF
  isplitl [HK]; · iexact HK
  iexact HV

theorem part11 {Q : (Σ' (v369 : FVec F S1x256 .f32) (v374 : FVec F S1x256 .f32) (v375 : FVec F S64x256 .f32), FVec F S1x256 .bf16) → sProp 𝕄} :
    iprop(fillPts I false 2 2 2 c ∗ kPts I c ∗ vPts I c)
      ⊢ iprop(((fillPts I false 4 3 3 c ∗ kPts I c ∗ vPts I c) -∗ Q ⟨mV I c false 3, lV I c false 3, oV I c false 3, mBB I c false 3⟩)
        -∗ wpK c (k0_part11 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (mV I c false 2) (lV I c false 2) (oV I c false 2)) Q) := by
  rw [k0_part11_eq_skeleton]; unfold k0_part11_skel
  simp only [storeSubelements, Prog.lift, Prog.bind_op, Prog.bind_ret, Prog.pure_eq_ret]
  iintro ⟨HFF, HK, HV⟩ HQ
  have hv := wp_done (Q := Q) c ⟨mV I c false 3, lV I c false 3, oV I c false 3, mBB I c false 3⟩
  iapply (wp_dead I c false 2 2 2 128 64) $$ HFF; iintro %_ HFF
  iapply (wp_o I c false 2 2 2 2 rfl rfl) $$ HFF; iintro HFF
  iapply (wp_dead I c false 3 2 2 514 1) $$ HFF; iintro %_ HFF
  iapply (wp_m I c false 2 3 2 2 rfl rfl) $$ HFF; iintro HFF
  iapply (wp_dead I c false 3 3 2 522 1) $$ HFF; iintro %_ HFF
  iapply (wp_l I c false 2 3 3 2 rfl rfl) $$ HFF; iintro HFF
  iapply (wp_k I c false 3) $$ HK; iintro HK
  iapply (wp_v I c false 3) $$ HV; iintro HV
  iapply (wp_dead I c false 3 3 3 192 64) $$ HFF; iintro %_ HFF
  iapply (wp_o I c false 3 3 3 3 rfl rfl) $$ HFF; iintro HFF
  iapply hv
  iapply HQ
  isplitl [HFF]; · iexact HFF
  isplitl [HK]; · iexact HK
  iexact HV

theorem part12 {Q : (Σ' (v399 : FVec F S1x256 .f32) (v404 : FVec F S1x256 .f32) (v405 : FVec F S64x256 .f32), FVec F S1x256 .bf16) → sProp 𝕄} :
    iprop(fillPts I false 4 3 3 c ∗ kPts I c ∗ vPts I c)
      ⊢ iprop(((fillPts I false 5 5 4 c ∗ kPts I c ∗ vPts I c) -∗ Q ⟨mV I c false 4, lV I c false 4, oV I c false 4, lB I c false 4⟩)
        -∗ wpK c (k0_part12 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (lV I c false 3) (mBB I c false 3)) Q) := by
  rw [k0_part12_eq_skeleton]; unfold k0_part12_skel
  simp only [storeSubelements, Prog.lift, Prog.bind_op, Prog.bind_ret, Prog.pure_eq_ret]
  iintro ⟨HFF, HK, HV⟩ HQ
  have hv := wp_done (Q := Q) c ⟨mV I c false 4, lV I c false 4, oV I c false 4, lB I c false 4⟩
  iapply (wp_dead I c false 4 3 3 515 1) $$ HFF; iintro %_ HFF
  iapply (wp_m I c false 3 4 3 3 rfl rfl) $$ HFF; iintro HFF
  iapply (wp_dead I c false 4 4 3 523 1) $$ HFF; iintro %_ HFF
  iapply (wp_l I c false 3 4 4 3 rfl rfl) $$ HFF; iintro HFF
  iapply (wp_k I c false 4) $$ HK; iintro HK
  iapply (wp_v I c false 4) $$ HV; iintro HV
  iapply (wp_dead I c false 4 4 4 256 64) $$ HFF; iintro %_ HFF
  iapply (wp_o I c false 4 4 4 4 rfl rfl) $$ HFF; iintro HFF
  iapply (wp_dead I c false 5 4 4 516 1) $$ HFF; iintro %_ HFF
  iapply (wp_m I c false 4 5 4 4 rfl rfl) $$ HFF; iintro HFF
  iapply hv
  iapply HQ
  isplitl [HFF]; · iexact HFF
  isplitl [HK]; · iexact HK
  iexact HV

theorem part13 {Q : (Σ' (v429 : FVec F S1x256 .f32) (v434 : FVec F S1x256 .f32) (v435 : FVec F S64x256 .f32), FVec F S256x64 .f32) → sProp 𝕄} :
    iprop(fillPts I false 5 5 4 c ∗ kPts I c ∗ vPts I c)
      ⊢ iprop(((fillPts I false 6 6 6 c ∗ kPts I c ∗ vPts I c) -∗ Q ⟨mV I c false 5, lV I c false 5, oV I c false 5, qBlk I c false 6⟩)
        -∗ wpK c (k0_part13 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (lB I c false 4)) Q) := by
  rw [k0_part13_eq_skeleton]; unfold k0_part13_skel
  simp only [storeSubelements, Prog.lift, Prog.bind_op, Prog.bind_ret, Prog.pure_eq_ret]
  iintro ⟨HFF, HK, HV⟩ HQ
  have hv := wp_done (Q := Q) c ⟨mV I c false 5, lV I c false 5, oV I c false 5, qBlk I c false 6⟩
  iapply (wp_dead I c false 5 5 4 524 1) $$ HFF; iintro %_ HFF
  iapply (wp_l I c false 4 5 5 4 rfl rfl) $$ HFF; iintro HFF
  iapply (wp_k I c false 5) $$ HK; iintro HK
  iapply (wp_v I c false 5) $$ HV; iintro HV
  iapply (wp_dead I c false 5 5 5 320 64) $$ HFF; iintro %_ HFF
  iapply (wp_o I c false 5 5 5 5 rfl rfl) $$ HFF; iintro HFF
  iapply (wp_dead I c false 6 5 5 517 1) $$ HFF; iintro %_ HFF
  iapply (wp_m I c false 5 6 5 5 rfl rfl) $$ HFF; iintro HFF
  iapply (wp_dead I c false 6 6 5 525 1) $$ HFF; iintro %_ HFF
  iapply (wp_l I c false 5 6 6 5 rfl rfl) $$ HFF; iintro HFF
  iapply hv
  iapply HQ
  isplitl [HFF]; · iexact HFF
  isplitl [HK]; · iexact HK
  iexact HV

theorem part14 {Q : (Σ' (v459 : FVec F S1x256 .f32) (v464 : FVec F S1x256 .f32) (v465 : FVec F S64x256 .f32) (v482 : FVec F S512x64 .f32) (v483 : FVec F S512x256 .f32), F .f32) → sProp 𝕄} :
    iprop(kPts I c ∗ vPts I c ∗ fillPts I false 6 6 6 c)
      ⊢ iprop(((kPts I c ∗ vPts I c ∗ fillPts I false 7 7 7 c) -∗ Q ⟨mV I c false 6, lV I c false 6, oV I c false 6, vBlk I c false 7, k0_pay140 (qMat
    I c) (headBlk (I.k c) false 7), Scalar.ofBits .f32 0x3E000000#32⟩)
        -∗ wpK c (k0_part14 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (qMat I c) (qBlk I c false 6)) Q) := by
  rw [k0_part14_eq_skeleton]; unfold k0_part14_skel
  simp only [storeSubelements, Prog.lift, Prog.bind_op, Prog.bind_ret, Prog.pure_eq_ret]
  iintro ⟨HK, HV, HFF⟩ HQ
  have hv := wp_done (Q := Q) c ⟨mV I c false 6, lV I c false 6, oV I c false 6, vBlk I c false 7, k0_pay140 (qMat I c) (headBlk (I.k c) false 7),
    Scalar.ofBits .f32 0x3E000000#32⟩
  iapply (wp_k I c false 6) $$ HK; iintro HK
  iapply (wp_v I c false 6) $$ HV; iintro HV
  iapply (wp_dead I c false 6 6 6 384 64) $$ HFF; iintro %_ HFF
  iapply (wp_o I c false 6 6 6 6 rfl rfl) $$ HFF; iintro HFF
  iapply (wp_dead I c false 7 6 6 518 1) $$ HFF; iintro %_ HFF
  iapply (wp_m I c false 6 7 6 6 rfl rfl) $$ HFF; iintro HFF
  iapply (wp_dead I c false 7 7 6 526 1) $$ HFF; iintro %_ HFF
  iapply (wp_l I c false 6 7 7 6 rfl rfl) $$ HFF; iintro HFF
  iapply (wp_k I c false 7) $$ HK; iintro HK
  iapply (wp_v I c false 7) $$ HV; iintro HV
  iapply hv
  iapply HQ
  isplitl [HK]; · iexact HK
  isplitl [HV]; · iexact HV
  iexact HFF

theorem part15 (w5 : BitVec 32) {Q : (Σ' (v489 : FVec F S1x256 .f32) (v494 : FVec F S1x256 .f32), FVec F S64x256 .f32) → sProp 𝕄} :
    iprop(recs I κ c ∗ fillPts I false 7 7 7 c ∗ owesN 3 c ∗ hopA false 0 c)
      ⊢ iprop(((owesN 4 c ∗ hopB false 0 c ∗ slotAt I false 0 fullShare.right c) -∗ Q ⟨mV I c false 7, lV I c false 7, oV I c false 7⟩)
        -∗ wpK c (k0_part15 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c w5 (vBlk I c false 7) (k0_pay140 (qMat I c) (headBlk (I.k c) false
    7)) (Scalar.ofBits .f32 0x3E000000#32)) Q) := by
  rw [k0_part15_eq_skeleton]; unfold k0_part15_skel
  simp only [storeSubelements, Prog.lift, Prog.bind_op, Prog.bind_ret, Prog.pure_eq_ret]
  iintro ⟨#HR, HFF, HO, HhF0⟩ HQ
  have hv := wp_done (Q := Q) c ⟨mV I c false 7, lV I c false 7, oV I c false 7⟩
  iapply (wp_dead I c false 7 7 7 448 64) $$ HFF; iintro %_ HFF
  iapply (wp_o I c false 7 7 7 7 rfl rfl) $$ HFF; iintro HFF
  iapply (wp_dead I c false 8 7 7 519 1) $$ HFF; iintro %_ HFF
  iapply (wp_m I c false 7 8 7 7 rfl rfl) $$ HFF; iintro HFF
  iapply (wp_dead I c false 8 8 7 527 1) $$ HFF; iintro %_ HFF
  iapply (wp_l I c false 7 8 8 7 rfl rfl) $$ HFF; iintro HFF
  ihave HsF0 := (slotAt_zero I c false) $$ HFF
  iapply (send_hop I κ c false 0 0 1 rfl rfl 3 rfl _ (dev4_eq c)) $$ [HO HhF0 HsF0]
  · isplitr; · iexact HR
    isplitl [HO]; · iexact HO
    isplitl [HhF0]; · iexact HhF0
    iexact HsF0
  iintro ⟨HO, HhF0, HsF0⟩
  iapply hv
  iapply HQ
  isplitl [HO]; · iexact HO
  isplitl [HhF0]; · iexact HhF0
  iexact HsF0

theorem part16 (w5 : BitVec 32) (w7 : BitVec 32) {Q : (PUnit) → sProp 𝕄} :
    iprop(recs I κ c ∗ owesN 4 c ∗ hopB true 0 c ∗ hopB false 0 c ∗ hopA true 1 c)
      ⊢ iprop(((owesN 5 c ∗ hopC true 0 c ∗ slotAt I true 1 fullShare.right c ∗ hopC false 0 c ∗ slotAt I false 1 fullShare c ∗ hopB true 1 c) -∗ Q
    ⟨⟩)
        -∗ wpK c (k0_part16 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c w5 w7) Q) := by
  rw [k0_part16_eq_skeleton]; unfold k0_part16_skel
  simp only [Prog.lift, Prog.bind_op, Prog.bind_ret, Prog.pure_eq_ret]
  iintro ⟨#HR, HO, HhT0, HhF0, HhT1⟩ HQ
  have hv := wp_done (Q := Q) c ⟨⟩
  iapply (recv_hop I κ c true 0 0 1 rfl rfl 4 rfl) $$ [HO HhT0]
  · isplitr; · iexact HR
    isplitl [HO]; · iexact HO
    iexact HhT0
  iintro ⟨HO, HhT0, HsT1⟩
  iapply (recv_hop I κ c false 0 0 1 rfl rfl 4 rfl) $$ [HO HhF0]
  · isplitr; · iexact HR
    isplitl [HO]; · iexact HO
    iexact HhF0
  iintro ⟨HO, HhF0, HsF1⟩
  iapply (send_hop I κ c true 1 1 2 rfl rfl 4 rfl _ (dev5_eq c)) $$ [HO HhT1 HsT1]
  · isplitr; · iexact HR
    isplitl [HO]; · iexact HO
    isplitl [HhT1]; · iexact HhT1
    iexact HsT1
  iintro ⟨HO, HhT1, HsT1⟩
  iapply hv
  iapply HQ
  isplitl [HO]; · iexact HO
  isplitl [HhT0]; · iexact HhT0
  isplitl [HsT1]; · iexact HsT1
  isplitl [HhF0]; · iexact HhF0
  isplitl [HsF1]; · iexact HsF1
  iexact HhT1

end Cert.KernelIdealProof

end
-- ==== Proof.PartsB.lean ====
/-
The second half of the body, part by part: arrivals merged into the running results, the later hops, and the waits
that end the copies.
-/
module

public import proofs.«01_k».proof.Proof.Ends

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

theorem part17 (w5 : BitVec 32) {Q : (Σ' (v556 : FVec F S528x256 .f32) (v560 : FVec F S1x256 .f32) (v567 : FVec F S1x256 .f32) (v572 : FVec F S64x256 .f32) (v576 : FVec F S1x256 .f32) (v583 : FVec F S1x256 .f32) (v588 : FVec F S64x256 .f32) (v589 : FVec F S64x256 .f32), FVec F S1x256 .f32) → sProp 𝕄} :
    iprop(recs I κ c ∗ owesN 5 c ∗ hopA false 1 c ∗ slotAt I false 1 fullShare c ∗ slotAt I true 1 fullShare.right c)
      ⊢ iprop(((owesN 6 c ∗ hopB false 1 c ∗ slotAt I false 1 fullShare.right c ∗ slotAt I true 1 fullShare.right c) -∗ Q ⟨recv I true 1 c, M I true c
    0 1, Ls I true c 0 1, Os I true c 0 1, M I true c 1 1, Ls I true c 1 1, Os I true c 1 1, oR I true 1 c 2, mR I true 1 c 2⟩)
        -∗ wpK c (k0_part17 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c w5 (mV I c true 0) (lV I c true 0) (oV I c true 0) (mV I c true 1)
    (lV I c true 1) (oV I c true 1)) Q) := by
  rw [k0_part17_eq_skeleton]; unfold k0_part17_skel
  simp only [Prog.lift, Prog.bind_op, Prog.bind_ret, Prog.pure_eq_ret]
  iintro ⟨#HR, HO, HhF1, HsF1, HsT1⟩ HQ
  have hv := wp_done (Q := Q) c ⟨recv I true 1 c, M I true c 0 1, Ls I true c 0 1, Os I true c 0 1, M I true c 1 1, Ls I true c 1 1, Os I true c 1 1,
    oR I true 1 c 2, mR I true 1 c 2⟩
  iapply (send_hop I κ c false 1 1 2 rfl rfl 5 rfl _ (dev6_eq c)) $$ [HO HhF1 HsF1]
  · isplitr; · iexact HR
    isplitl [HO]; · iexact HO
    isplitl [HhF1]; · iexact HhF1
    iexact HsF1
  iintro ⟨HO, HhF1, HsF1⟩
  iapply (read_hop I c true 1 fullShare.right) $$ HsT1; iintro HsT1
  iapply hv
  iapply HQ
  isplitl [HO]; · iexact HO
  isplitl [HhF1]; · iexact HhF1
  isplitl [HsF1]; · iexact HsF1
  iexact HsT1

theorem part18 {Q : (Σ' (v592 : FVec F S1x256 .f32) (v599 : FVec F S1x256 .f32) (v604 : FVec F S64x256 .f32) (v608 : FVec F S1x256 .f32) (v615 : FVec F S1x256 .f32) (v620 : FVec F S64x256 .f32) (v624 : FVec F S1x256 .f32) (v631 : FVec F S1x256 .f32) (v636 : FVec F S64x256 .f32) (v637 : FVec F S64x256 .f32) (v640 : FVec F S1x256 .f32) (v647 : FVec F S1x256 .f32) (v649 : FVec F S64x256 .f32), FVec F S64x256 .f32) → sProp 𝕄} :
    Q ⟨M I true c 2 1, Ls I true c 2 1, Os I true c 2 1, M I true c 3 1, Ls I true c 3 1, Os I true c 3 1, M I true c 4 1, Ls I true c 4 1, Os I true
    c 4 1, oR I true 1 c 5, M I true c 5 1, Ls I true c 5 1, k0_pay187 (mV I c true 5) (oV I c true 5) (recv I true 1 c), k0_pay188 (mV I c true 5)
    (recv I true 1 c)⟩ ⊢ wpK c (k0_part18 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0)
    (Memref.isWhole_whole _) (Memref.whole cc0_stg5_0) (Memref.isWhole_whole _) (Memref.whole cc0_scratch0) (Memref.isWhole_whole _) (Memref.whole
    cc0_scratch1) (Memref.isWhole_whole _) cc0_scratch2 cc0_scratch3 cc0_scratch4 cc0_scratch5 (mV I c true 2) (lV I c true 2) (oV I c true 2) (mV I c
    true 3) (lV I c true 3) (oV I c true 3) (mV I c true 4) (lV I c true 4) (oV I c true 4) (mV I c true 5) (lV I c true 5) (oV I c true 5) (recv I
    true 1 c) (oR I true 1 c 2) (mR I true 1 c 2)) Q := by
  rw [k0_part18_eq_skeleton]; unfold k0_part18_skel
  simp only [Prog.pure_eq_ret]
  exact wp_done c _

theorem part19 {Q : (Σ' (v652 : FVec F S64x256 .f32) (v656 : FVec F S1x256 .f32) (v663 : FVec F S1x256 .f32) (v668 : FVec F S64x256 .f32) (v672 : FVec F S1x256 .f32) (v679 : FVec F S1x256 .f32) (v684 : FVec F S64x256 .f32) (v687 : FVec F S528x256 .f32) (v691 : FVec F S1x256 .f32) (v698 : FVec F S1x256 .f32) (v703 : FVec F S64x256 .f32) (v704 : FVec F S64x256 .f32) (v705 : FVec F S1x256 .f32) (v706 : FVec F S1x256 .f32), FVec F S1x256 .f32) → sProp 𝕄} :
    iprop(slotAt I false 1 fullShare.right c)
      ⊢ iprop(((slotAt I false 1 fullShare.right c) -∗ Q ⟨Os I true c 5 1, M I true c 6 1, Ls I true c 6 1, Os I true c 6 1, M I true c 7 1, Ls I true
    c 7 1, Os I true c 7 1, recv I false 1 c, M I false c 0 1, Ls I false c 0 1, Os I false c 0 1, oR I false 1 c 1, mR I false 1 c 1, lR I false 1 c
    1, M I false c 1 1⟩)
        -∗ wpK c (k0_part19 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (mV I c true 6) (lV I c true 6) (oV I c true 6) (mV I c true 7) (lV I
    c true 7) (oV I c true 7) (mV I c false 0) (lV I c false 0) (oV I c false 0) (mV I c false 1) (recv I true 1 c) (oR I true 1 c 5) (k0_pay187 (mV I
    c true 5) (oV I c true 5) (recv I true 1 c)) (k0_pay188 (mV I c true 5) (recv I true 1 c))) Q) := by
  rw [k0_part19_eq_skeleton]; unfold k0_part19_skel
  simp only [Prog.lift, Prog.bind_op, Prog.bind_ret, Prog.pure_eq_ret]
  iintro HsF1 HQ
  have hv := wp_done (Q := Q) c ⟨Os I true c 5 1, M I true c 6 1, Ls I true c 6 1, Os I true c 6 1, M I true c 7 1, Ls I true c 7 1, Os I true c 7 1,
    recv I false 1 c, M I false c 0 1, Ls I false c 0 1, Os I false c 0 1, oR I false 1 c 1, mR I false 1 c 1, lR I false 1 c 1, M I false c 1 1⟩
  iapply (read_hop I c false 1 fullShare.right) $$ HsF1; iintro HsF1
  iapply hv
  iapply HQ
  iexact HsF1

theorem part20 {Q : (Σ' (v714 : FVec F S1x256 .f32) (v719 : FVec F S64x256 .f32) (v723 : FVec F S1x256 .f32) (v730 : FVec F S1x256 .f32) (v735 : FVec F S64x256 .f32) (v739 : FVec F S1x256 .f32) (v746 : FVec F S1x256 .f32) (v751 : FVec F S64x256 .f32) (v755 : FVec F S1x256 .f32) (v762 : FVec F S1x256 .f32), FVec F S64x256 .f32) → sProp 𝕄} :
    Q ⟨Ls I false c 1 1, Os I false c 1 1, M I false c 2 1, Ls I false c 2 1, Os I false c 2 1, M I false c 3 1, Ls I false c 3 1, Os I false c 3 1, M
    I false c 4 1, Ls I false c 4 1, Os I false c 4 1⟩ ⊢ wpK c (k0_part20 (Memref.whole cc0_stg0_0) (Memref.isWhole_whole _) (Memref.whole cc0_stg1_0)
    (Memref.isWhole_whole _) (Memref.whole cc0_stg2_0) (Memref.isWhole_whole _) (Memref.whole cc0_stg3_0) (Memref.isWhole_whole _) (Memref.whole
    cc0_stg4_0) (Memref.isWhole_whole _) (Memref.whole cc0_stg5_0) (Memref.isWhole_whole _) (Memref.whole cc0_scratch0) (Memref.isWhole_whole _)
    (Memref.whole cc0_scratch1) (Memref.isWhole_whole _) cc0_scratch2 cc0_scratch3 cc0_scratch4 cc0_scratch5 (mV I c false 1) (lV I c false 1) (oV I c
    false 1) (mV I c false 2) (lV I c false 2) (oV I c false 2) (mV I c false 3) (lV I c false 3) (oV I c false 3) (mV I c false 4) (lV I c false 4)
    (oV I c false 4) (recv I false 1 c) (oR I false 1 c 1) (mR I false 1 c 1) (lR I false 1 c 1) (M I false c 1 1)) Q := by
  rw [k0_part20_eq_skeleton]; unfold k0_part20_skel
  simp only [Prog.pure_eq_ret]
  exact wp_done c _

theorem part21 (w7 : BitVec 32) {Q : (Σ' (v771 : FVec F S1x256 .f32) (v778 : FVec F S1x256 .f32) (v783 : FVec F S64x256 .f32) (v787 : FVec F S1x256 .f32) (v794 : FVec F S1x256 .f32) (v799 : FVec F S64x256 .f32) (v803 : FVec F S1x256 .f32) (v810 : FVec F S1x256 .f32), FVec F S64x256 .f32) → sProp 𝕄} :
    Q ⟨M I false c 5 1, Ls I false c 5 1, Os I false c 5 1, M I false c 6 1, Ls I false c 6 1, Os I false c 6 1, M I false c 7 1, Ls I false c 7 1, Os
    I false c 7 1⟩ ⊢ wpK c (k0_part21 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0)
    (Memref.isWhole_whole _) (Memref.whole cc0_stg5_0) (Memref.isWhole_whole _) (Memref.whole cc0_scratch0) (Memref.isWhole_whole _) (Memref.whole
    cc0_scratch1) (Memref.isWhole_whole _) cc0_scratch2 cc0_scratch3 cc0_scratch4 cc0_scratch5 w7 (mV I c false 5) (lV I c false 5) (oV I c false 5)
    (mV I c false 6) (lV I c false 6) (oV I c false 6) (mV I c false 7) (lV I c false 7) (oV I c false 7) (recv I false 1 c)) Q := by
  rw [k0_part21_eq_skeleton]; unfold k0_part21_skel
  simp only [Prog.pure_eq_ret]
  exact wp_done c _

theorem part22 (w5 : BitVec 32) (w7 : BitVec 32) {Q : (PUnit) → sProp 𝕄} :
    iprop(recs I κ c ∗ owesN 6 c ∗ hopB true 1 c ∗ hopB false 1 c ∗ hopA true 2 c)
      ⊢ iprop(((owesN 7 c ∗ hopC true 1 c ∗ slotAt I true 2 fullShare.right c ∗ hopC false 1 c ∗ slotAt I false 2 fullShare c ∗ hopB true 2 c) -∗ Q
    ⟨⟩)
        -∗ wpK c (k0_part22 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c w5 w7) Q) := by
  rw [k0_part22_eq_skeleton]; unfold k0_part22_skel
  simp only [Prog.lift, Prog.bind_op, Prog.bind_ret, Prog.pure_eq_ret]
  iintro ⟨#HR, HO, HhT1, HhF1, HhT2⟩ HQ
  have hv := wp_done (Q := Q) c ⟨⟩
  iapply (recv_hop I κ c true 1 1 2 rfl rfl 6 rfl) $$ [HO HhT1]
  · isplitr; · iexact HR
    isplitl [HO]; · iexact HO
    iexact HhT1
  iintro ⟨HO, HhT1, HsT2⟩
  iapply (recv_hop I κ c false 1 1 2 rfl rfl 6 rfl) $$ [HO HhF1]
  · isplitr; · iexact HR
    isplitl [HO]; · iexact HO
    iexact HhF1
  iintro ⟨HO, HhF1, HsF2⟩
  iapply (send_hop I κ c true 2 2 3 rfl rfl 6 rfl _ (dev7_eq c)) $$ [HO HhT2 HsT2]
  · isplitr; · iexact HR
    isplitl [HO]; · iexact HO
    isplitl [HhT2]; · iexact HhT2
    iexact HsT2
  iintro ⟨HO, HhT2, HsT2⟩
  iapply hv
  iapply HQ
  isplitl [HO]; · iexact HO
  isplitl [HhT1]; · iexact HhT1
  isplitl [HsT2]; · iexact HsT2
  isplitl [HhF1]; · iexact HhF1
  isplitl [HsF2]; · iexact HsF2
  iexact HhT2

theorem part23 {Q : (Σ' (v854 : FVec F S528x256 .f32) (v858 : FVec F S1x256 .f32) (v865 : FVec F S1x256 .f32) (v870 : FVec F S64x256 .f32) (v874 : FVec F S1x256 .f32) (v881 : FVec F S1x256 .f32) (v886 : FVec F S64x256 .f32) (v887 : FVec F S64x256 .f32) (v890 : FVec F S1x256 .f32) (v897 : FVec F S1x256 .f32) (v899 : FVec F S64x256 .f32), FVec F S64x256 .f32) → sProp 𝕄} :
    iprop(recs I κ c ∗ owesN 7 c ∗ hopA false 2 c ∗ slotAt I false 2 fullShare c ∗ slotAt I true 2 fullShare.right c)
      ⊢ iprop(((owesN 8 c ∗ hopB false 2 c ∗ slotAt I false 2 fullShare.right c ∗ slotAt I true 2 fullShare.right c) -∗ Q ⟨recv I true 2 c, M I true c
    0 2, Ls I true c 0 2, Os I true c 0 2, M I true c 1 2, Ls I true c 1 2, Os I true c 1 2, oR I true 2 c 2, M I true c 2 2, Ls I true c 2 2,
    k0_pay272 (M I true c 2 1) (Os I true c 2 1) (slotV (packed I true (src true 2 c))), k0_pay273 (M I true c 2 1) (slotV (packed I true (src true 2
    c)))⟩)
        -∗ wpK c (k0_part23 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 c (M I true c 0 1) (Ls I true c 0 1) (Os I true c 0 1) (M I true c 1
    1) (Ls I true c 1 1) (Os I true c 1 1) (M I true c 2 1) (Ls I true c 2 1) (Os I true c 2 1)) Q) := by
  rw [k0_part23_eq_skeleton]; unfold k0_part23_skel
  simp only [Prog.lift, Prog.bind_op, Prog.bind_ret, Prog.pure_eq_ret]
  iintro ⟨#HR, HO, HhF2, HsF2, HsT2⟩ HQ
  have hv := wp_done (Q := Q) c ⟨recv I true 2 c, M I true c 0 2, Ls I true c 0 2, Os I true c 0 2, M I true c 1 2, Ls I true c 1 2, Os I true c 1 2,
    oR I true 2 c 2, M I true c 2 2, Ls I true c 2 2, k0_pay272 (M I true c 2 1) (Os I true c 2 1) (slotV (packed I true (src true 2 c))), k0_pay273
    (M I true c 2 1) (slotV (packed I true (src true 2 c)))⟩
  iapply (send_hop I κ c false 2 2 3 rfl rfl 7 rfl _ (dev8_eq c)) $$ [HO HhF2 HsF2]
  · isplitr; · iexact HR
    isplitl [HO]; · iexact HO
    isplitl [HhF2]; · iexact HhF2
    iexact HsF2
  iintro ⟨HO, HhF2, HsF2⟩
  iapply (read_hop I c true 2 fullShare.right) $$ HsT2; iintro HsT2
  iapply hv
  iapply HQ
  isplitl [HO]; · iexact HO
  isplitl [HhF2]; · iexact HhF2
  isplitl [HsF2]; · iexact HsF2
  iexact HsT2

theorem part24 {Q : (Σ' (v902 : FVec F S64x256 .f32) (v906 : FVec F S1x256 .f32) (v913 : FVec F S1x256 .f32) (v918 : FVec F S64x256 .f32) (v922 : FVec F S1x256 .f32) (v929 : FVec F S1x256 .f32) (v934 : FVec F S64x256 .f32) (v938 : FVec F S1x256 .f32) (v945 : FVec F S1x256 .f32) (v950 : FVec F S64x256 .f32) (v951 : FVec F S64x256 .f32) (v954 : FVec F S1x256 .f32) (v956 : FVec F S1x256 .f32) (v958 : FVec F S1x256 .f32) (v959 : FVec F S1x256 .f32), FVec F S1x256 .f32) → sProp 𝕄} :
    Q ⟨Os I true c 2 2, M I true c 3 2, Ls I true c 3 2, Os I true c 3 2, M I true c 4 2, Ls I true c 4 2, Os I true c 4 2, M I true c 5 2, Ls I true
    c 5 2, Os I true c 5 2, oR I true 2 c 6, M I true c 6 2, aOld I true c 6 1, aNew I true c 6 1, k0_pay298 (M I true c 6 1) (Ls I true c 6 1) (recv
    I true 2 c), k0_pay299 (M I true c 6 1) (recv I true 2 c)⟩ ⊢ wpK c (k0_part24 (Memref.whole cc0_stg0_0) (Memref.isWhole_whole _) (Memref.whole
    cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _) (Memref.whole cc0_scratch0)
    (Memref.isWhole_whole _) (Memref.whole cc0_scratch1) (Memref.isWhole_whole _) cc0_scratch2 cc0_scratch3 cc0_scratch4 cc0_scratch5 (M I true c 3 1)
    (Ls I true c 3 1) (Os I true c 3 1) (M I true c 4 1) (Ls I true c 4 1) (Os I true c 4 1) (M I true c 5 1) (Ls I true c 5 1) (Os I true c 5 1) (M I
    true c 6 1) (Ls I true c 6 1) (recv I true 2 c) (oR I true 2 c 2) (k0_pay272 (M I true c 2 1) (Os I true c 2 1) (slotV (packed I true (src true 2
    c)))) (k0_pay273 (M I true c 2 1) (slotV (packed I true (src true 2 c))))) Q := by
  rw [k0_part24_eq_skeleton]; unfold k0_part24_skel
  simp only [Prog.pure_eq_ret]
  exact wp_done c _

theorem part25 {Q : (Σ' (v961 : FVec F S1x256 .f32) (v966 : FVec F S64x256 .f32) (v970 : FVec F S1x256 .f32) (v977 : FVec F S1x256 .f32) (v982 : FVec F S64x256 .f32) (v985 : FVec F S528x256 .f32) (v989 : FVec F S1x256 .f32) (v996 : FVec F S1x256 .f32) (v1001 : FVec F S64x256 .f32) (v1005 : FVec F S1x256 .f32) (v1012 : FVec F S1x256 .f32), FVec F S64x256 .f32) → sProp 𝕄} :
    iprop(slotAt I false 2 fullShare.right c)
      ⊢ iprop(((slotAt I false 2 fullShare.right c) -∗ Q ⟨Ls I true c 6 2, Os I true c 6 2, M I true c 7 2, Ls I true c 7 2, Os I true c 7 2, recv I
    false 2 c, M I false c 0 2, Ls I false c 0 2, Os I false c 0 2, M I false c 1 2, Ls I false c 1 2, Os I false c 1 2⟩)
        -∗ wpK c (k0_part25 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (Os I true c 6 1) (M I true c 7 1) (Ls I true c 7 1) (Os I true c 7
    1) (M I false c 0 1) (Ls I false c 0 1) (Os I false c 0 1) (M I false c 1 1) (Ls I false c 1 1) (Os I false c 1 1) (recv I true 2 c) (oR I true 2
    c 6) (aOld I true c 6 1) (aNew I true c 6 1) (k0_pay298 (M I true c 6 1) (Ls I true c 6 1) (recv I true 2 c)) (k0_pay299 (M I true c 6 1) (recv I
    true 2 c))) Q) := by
  rw [k0_part25_eq_skeleton]; unfold k0_part25_skel
  simp only [Prog.lift, Prog.bind_op, Prog.bind_ret, Prog.pure_eq_ret]
  iintro HsF2 HQ
  have hv := wp_done (Q := Q) c ⟨Ls I true c 6 2, Os I true c 6 2, M I true c 7 2, Ls I true c 7 2, Os I true c 7 2, recv I false 2 c, M I false c 0
    2, Ls I false c 0 2, Os I false c 0 2, M I false c 1 2, Ls I false c 1 2, Os I false c 1 2⟩
  iapply (read_hop I c false 2 fullShare.right) $$ HsF2; iintro HsF2
  iapply hv
  iapply HQ
  iexact HsF2

theorem part26 {Q : (Σ' (v1021 : FVec F S1x256 .f32) (v1028 : FVec F S1x256 .f32) (v1033 : FVec F S64x256 .f32) (v1037 : FVec F S1x256 .f32) (v1044 : FVec F S1x256 .f32) (v1049 : FVec F S64x256 .f32) (v1053 : FVec F S1x256 .f32) (v1060 : FVec F S1x256 .f32) (v1065 : FVec F S64x256 .f32) (v1066 : FVec F S64x256 .f32) (v1069 : FVec F S1x256 .f32) (v1073 : FVec F S1x256 .f32) (v1076 : FVec F S1x256 .f32), FVec F S64x256 .f32) → sProp 𝕄} :
    Q ⟨M I false c 2 2, Ls I false c 2 2, Os I false c 2 2, M I false c 3 2, Ls I false c 3 2, Os I false c 3 2, M I false c 4 2, Ls I false c 4 2, Os
    I false c 4 2, oR I false 2 c 5, M I false c 5 2, aNew I false c 5 1, Ls I false c 5 2, k0_pay345 (M I false c 5 1) (recv I false 2 c)⟩ ⊢ wpK c
    (k0_part26 (Memref.whole cc0_stg0_0) (Memref.isWhole_whole _) (Memref.whole cc0_stg1_0) (Memref.isWhole_whole _) (Memref.whole cc0_stg2_0)
    (Memref.isWhole_whole _) (Memref.whole cc0_stg3_0) (Memref.isWhole_whole _) (Memref.whole cc0_stg4_0) (Memref.isWhole_whole _) (Memref.whole
    cc0_stg5_0) (Memref.isWhole_whole _) (Memref.whole cc0_scratch0) (Memref.isWhole_whole _) (Memref.whole cc0_scratch1) (Memref.isWhole_whole _)
    cc0_scratch2 cc0_scratch3 cc0_scratch4 cc0_scratch5 (M I false c 2 1) (Ls I false c 2 1) (Os I false c 2 1) (M I false c 3 1) (Ls I false c 3 1)
    (Os I false c 3 1) (M I false c 4 1) (Ls I false c 4 1) (Os I false c 4 1) (M I false c 5 1) (Ls I false c 5 1) (recv I false 2 c)) Q := by
  rw [k0_part26_eq_skeleton]; unfold k0_part26_skel
  simp only [Prog.pure_eq_ret]
  exact wp_done c _

theorem part27 (w7 : BitVec 32) {Q : (Σ' (v1081 : FVec F S64x256 .f32) (v1085 : FVec F S1x256 .f32) (v1092 : FVec F S1x256 .f32) (v1097 : FVec F S64x256 .f32) (v1101 : FVec F S1x256 .f32) (v1108 : FVec F S1x256 .f32) (v1113 : FVec F S64x256 .f32), BitVec 32) → sProp 𝕄} :
    iprop(recs I κ c ∗ owesN 8 c ∗ hopB true 2 c)
      ⊢ iprop(((owesN 8 c ∗ hopC true 2 c ∗ slotAt I true 3 fullShare c) -∗ Q ⟨Os I false c 5 2, M I false c 6 2, Ls I false c 6 2, Os I false c 6 2,
    M I false c 7 2, Ls I false c 7 2, Os I false c 7 2, 1#32⟩)
        -∗ wpK c (k0_part27 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 w7 (Os I false c 5 1) (M I false c 6 1) (Ls I false c 6 1) (Os I
    false c 6 1) (M I false c 7 1) (Ls I false c 7 1) (Os I false c 7 1) (recv I false 2 c) (oR I false 2 c 5) (aNew I false c 5 1) (k0_pay345 (M I
    false c 5 1) (recv I false 2 c))) Q) := by
  rw [k0_part27_eq_skeleton]; unfold k0_part27_skel
  simp only [Prog.lift, Prog.bind_op, Prog.bind_ret, Prog.pure_eq_ret]
  iintro ⟨#HR, HO, HhT2⟩ HQ
  have hv := wp_done (Q := Q) c ⟨Os I false c 5 2, M I false c 6 2, Ls I false c 6 2, Os I false c 6 2, M I false c 7 2, Ls I false c 7 2, Os I false
    c 7 2, 1#32⟩
  iapply (recv_hop I κ c true 2 2 3 rfl rfl 8 rfl) $$ [HO HhT2]
  · isplitr; · iexact HR
    isplitl [HO]; · iexact HO
    iexact HhT2
  iintro ⟨HO, HhT2, HsT3⟩
  iapply hv
  iapply HQ
  isplitl [HO]; · iexact HO
  isplitl [HhT2]; · iexact HhT2
  iexact HsT3

theorem part28 (w5 : BitVec 32) {Q : (Σ' (v1132 : FVec F S528x256 .f32) (v1143 : FVec F S1x256 .f32) (v1148 : FVec F S64x256 .f32) (v1159 : FVec F S1x256 .f32) (v1164 : FVec F S64x256 .f32) (v1165 : FVec F S64x256 .f32) (v1167 : FVec F S1x256 .f32) (v1170 : FVec F S1x256 .f32), FVec F S1x256 .f32) → sProp 𝕄} :
    iprop(recs I κ c ∗ owesN 8 c ∗ hopB false 2 c ∗ slotAt I true 3 fullShare c)
      ⊢ iprop(((owesN 8 c ∗ hopC false 2 c ∗ slotAt I false 3 fullShare c ∗ slotAt I true 3 fullShare c) -∗ Q ⟨recv I true 3 c, Ls I true c 0 3, Os I
    true c 0 3, Ls I true c 1 3, Os I true c 1 3, oR I true 3 c 2, lR I true 3 c 2, aOld I true c 2 2, aNew I true c 2 2⟩)
        -∗ wpK c (k0_part28 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 w5 (M I true c 0 2) (Ls I true c 0 2) (Os I true c 0 2) (M I true c 1
    2) (Ls I true c 1 2) (Os I true c 1 2) (M I true c 2 2) (1#32)) Q) := by
  rw [k0_part28_eq_skeleton]; unfold k0_part28_skel
  simp only [Prog.lift, Prog.bind_op, Prog.bind_ret, Prog.pure_eq_ret]
  iintro ⟨#HR, HO, HhF2, HsT3⟩ HQ
  have hv := wp_done (Q := Q) c ⟨recv I true 3 c, Ls I true c 0 3, Os I true c 0 3, Ls I true c 1 3, Os I true c 1 3, oR I true 3 c 2, lR I true 3 c
    2, aOld I true c 2 2, aNew I true c 2 2⟩
  iapply (recv_hop I κ c false 2 2 3 rfl rfl 8 rfl) $$ [HO HhF2]
  · isplitr; · iexact HR
    isplitl [HO]; · iexact HO
    iexact HhF2
  iintro ⟨HO, HhF2, HsF3⟩
  iapply (read_hop I c true 3 fullShare) $$ HsT3; iintro HsT3
  iapply hv
  iapply HQ
  isplitl [HO]; · iexact HO
  isplitl [HhF2]; · iexact HhF2
  isplitl [HsF3]; · iexact HsF3
  iexact HsT3

theorem part29 {Q : (Σ' (v1175 : FVec F S1x256 .f32) (v1180 : FVec F S64x256 .f32) (v1191 : FVec F S1x256 .f32) (v1196 : FVec F S64x256 .f32) (v1207 : FVec F S1x256 .f32) (v1212 : FVec F S64x256 .f32) (v1223 : FVec F S1x256 .f32) (v1228 : FVec F S64x256 .f32) (v1229 : FVec F S64x256 .f32) (v1230 : FVec F S1x256 .f32) (v1231 : FVec F S1x256 .f32), FVec F S1x256 .f32) → sProp 𝕄} :
    Q ⟨Ls I true c 2 3, Os I true c 2 3, Ls I true c 3 3, Os I true c 3 3, Ls I true c 4 3, Os I true c 4 3, Ls I true c 5 3, Os I true c 5 3, oR I
    true 3 c 6, mR I true 3 c 6, lR I true 3 c 6, M I true c 6 3⟩ ⊢ wpK c (k0_part29 (Memref.whole cc0_stg0_0) (Memref.isWhole_whole _) (Memref.whole
    cc0_stg1_0) (Memref.isWhole_whole _) (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _) (Memref.whole cc0_scratch0)
    (Memref.isWhole_whole _) (Memref.whole cc0_scratch1) (Memref.isWhole_whole _) cc0_scratch2 cc0_scratch3 cc0_scratch4 cc0_scratch5 (Ls I true c 2
    2) (Os I true c 2 2) (M I true c 3 2) (Ls I true c 3 2) (Os I true c 3 2) (M I true c 4 2) (Ls I true c 4 2) (Os I true c 4 2) (M I true c 5 2)
    (Ls I true c 5 2) (Os I true c 5 2) (M I true c 6 2) (recv I true 3 c) (oR I true 3 c 2) (lR I true 3 c 2) (aOld I true c 2 2) (aNew I true c 2
    2)) Q := by
  rw [k0_part29_eq_skeleton]; unfold k0_part29_skel
  simp only [Prog.pure_eq_ret]
  exact wp_done c _

theorem part30 {Q : (Σ' (v1239 : FVec F S1x256 .f32) (v1244 : FVec F S64x256 .f32) (v1255 : FVec F S1x256 .f32) (v1260 : FVec F S64x256 .f32) (v1263 : FVec F S528x256 .f32) (v1274 : FVec F S1x256 .f32) (v1279 : FVec F S64x256 .f32) (v1280 : FVec F S64x256 .f32) (v1285 : FVec F S1x256 .f32) (v1287 : FVec F S1x256 .f32) (v1288 : FVec F S1x256 .f32), FVec F S1x256 .f32) → sProp 𝕄} :
    iprop(slotAt I false 3 fullShare c)
      ⊢ iprop(((slotAt I false 3 fullShare c) -∗ Q ⟨Ls I true c 6 3, Os I true c 6 3, Ls I true c 7 3, Os I true c 7 3, recv I false 3 c, Ls I false c
    0 3, Os I false c 0 3, oR I false 3 c 1, aOld I false c 1 2, aNew I false c 1 2, k0_pay424 (M I false c 1 2) (Ls I false c 1 2) (slotV (packed I
    false (src false 3 c))), k0_pay425 (M I false c 1 2) (slotV (packed I false (src false 3 c)))⟩)
        -∗ wpK c (k0_part30 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (M I true c 6 2) (Ls I true c 6 2) (Os I true c 6 2) (M I true c 7 2)
    (Ls I true c 7 2) (Os I true c 7 2) (M I false c 0 2) (Ls I false c 0 2) (Os I false c 0 2) (M I false c 1 2) (Ls I false c 1 2) (recv I true 3 c)
    (oR I true 3 c 6) (mR I true 3 c 6) (lR I true 3 c 6) (M I true c 6 3)) Q) := by
  rw [k0_part30_eq_skeleton]; unfold k0_part30_skel
  simp only [Prog.lift, Prog.bind_op, Prog.bind_ret, Prog.pure_eq_ret]
  iintro HsF3 HQ
  have hv := wp_done (Q := Q) c ⟨Ls I true c 6 3, Os I true c 6 3, Ls I true c 7 3, Os I true c 7 3, recv I false 3 c, Ls I false c 0 3, Os I false c
    0 3, oR I false 3 c 1, aOld I false c 1 2, aNew I false c 1 2, k0_pay424 (M I false c 1 2) (Ls I false c 1 2) (slotV (packed I false (src false 3
    c))), k0_pay425 (M I false c 1 2) (slotV (packed I false (src false 3 c)))⟩
  iapply (read_hop I c false 3 fullShare) $$ HsF3; iintro HsF3
  iapply hv
  iapply HQ
  iexact HsF3

theorem part31 {Q : (Σ' (v1290 : FVec F S1x256 .f32) (v1295 : FVec F S64x256 .f32) (v1306 : FVec F S1x256 .f32) (v1311 : FVec F S64x256 .f32) (v1322 : FVec F S1x256 .f32) (v1327 : FVec F S64x256 .f32) (v1338 : FVec F S1x256 .f32) (v1343 : FVec F S64x256 .f32) (v1344 : FVec F S64x256 .f32) (v1345 : FVec F S1x256 .f32) (v1346 : FVec F S1x256 .f32) (v1347 : FVec F S1x256 .f32), FVec F S1x256 .f32) → sProp 𝕄} :
    Q ⟨Ls I false c 1 3, Os I false c 1 3, Ls I false c 2 3, Os I false c 2 3, Ls I false c 3 3, Os I false c 3 3, Ls I false c 4 3, Os I false c 4 3,
    oR I false 3 c 5, mR I false 3 c 5, lR I false 3 c 5, M I false c 5 3, aOld I false c 5 2⟩ ⊢ wpK c (k0_part31 (Memref.whole cc0_stg0_0)
    (Memref.isWhole_whole _) (Memref.whole cc0_stg1_0) (Memref.isWhole_whole _) (Memref.whole cc0_stg2_0) (Memref.isWhole_whole _) (Memref.whole
    cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 cc0_scratch4
    cc0_scratch5 (Os I false c 1 2) (M I false c 2 2) (Ls I false c 2 2) (Os I false c 2 2) (M I false c 3 2) (Ls I false c 3 2) (Os I false c 3 2) (M
    I false c 4 2) (Ls I false c 4 2) (Os I false c 4 2) (M I false c 5 2) (recv I false 3 c) (oR I false 3 c 1) (aOld I false c 1 2) (aNew I false c
    1 2) (k0_pay424 (M I false c 1 2) (Ls I false c 1 2) (slotV (packed I false (src false 3 c)))) (k0_pay425 (M I false c 1 2) (slotV (packed I false
    (src false 3 c))))) Q := by
  rw [k0_part31_eq_skeleton]; unfold k0_part31_skel
  simp only [Prog.pure_eq_ret]
  exact wp_done c _

theorem part32 {Q : (Σ' (v1354 : FVec F S1x256 .f32) (v1359 : FVec F S64x256 .f32) (v1370 : FVec F S1x256 .f32) (v1375 : FVec F S64x256 .f32) (v1386 : FVec F S1x256 .f32), FVec F S64x256 .f32) → sProp 𝕄} :
    iprop(recs I κ c ∗ owesN 8 c ∗ hopC true 0 c ∗ slotAt I true 0 fullShare.right c)
      ⊢ iprop(((owesN 8 c ∗ hopD true 0 c ∗ slotAt I true 0 fullShare c) -∗ Q ⟨Ls I false c 5 3, Os I false c 5 3, Ls I false c 6 3, Os I false c 6 3,
    Ls I false c 7 3, Os I false c 7 3⟩)
        -∗ wpK c (k0_part32 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (Ls I false c 5 2) (Os I false c 5 2) (M I false c 6 2) (Ls I false c
    6 2) (Os I false c 6 2) (M I false c 7 2) (Ls I false c 7 2) (Os I false c 7 2) (recv I false 3 c) (oR I false 3 c 5) (mR I false 3 c 5) (lR I
    false 3 c 5) (M I false c 5 3) (aOld I false c 5 2)) Q) := by
  rw [k0_part32_eq_skeleton]; unfold k0_part32_skel
  simp only [Prog.lift, Prog.bind_op, Prog.bind_ret, Prog.pure_eq_ret]
  iintro ⟨#HR, HO, HhT0, HsT0⟩ HQ
  have hv := wp_done (Q := Q) c ⟨Ls I false c 5 3, Os I false c 5 3, Ls I false c 6 3, Os I false c 6 3, Ls I false c 7 3, Os I false c 7 3⟩
  iapply (sent_hop I κ c true 0 0 1 rfl rfl) $$ [HO HhT0 HsT0]
  · isplitr; · iexact HR
    isplitl [HO]; · iexact HO
    isplitl [HhT0]; · iexact HhT0
    iexact HsT0
  iintro ⟨HO, HhT0, HsT0⟩
  iapply hv
  iapply HQ
  isplitl [HO]; · iexact HO
  isplitl [HhT0]; · iexact HhT0
  iexact HsT0

theorem part33 {Q : (PUnit) → sProp 𝕄} :
    iprop(recs I κ c ∗ owesN 8 c ∗ hopC false 0 c ∗ slotAt I false 0 fullShare.right c ∗ hopC true 1 c ∗ slotAt I true 1 fullShare.right c ∗ hopC
    false 1 c ∗ slotAt I false 1 fullShare.right c)
      ⊢ iprop(((owesN 8 c ∗ hopD false 0 c ∗ slotAt I false 0 fullShare c ∗ hopD true 1 c ∗ slotAt I true 1 fullShare c ∗ hopD false 1 c ∗ slotAt I
    false 1 fullShare c) -∗ Q ⟨⟩)
        -∗ wpK c (k0_part33 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5) Q) := by
  rw [k0_part33_eq_skeleton]; unfold k0_part33_skel
  simp only [Prog.lift, Prog.bind_op, Prog.bind_ret, Prog.pure_eq_ret]
  iintro ⟨#HR, HO, HhF0, HsF0, HhT1, HsT1, HhF1, HsF1⟩ HQ
  have hv := wp_done (Q := Q) c ⟨⟩
  iapply (sent_hop I κ c false 0 0 1 rfl rfl) $$ [HO HhF0 HsF0]
  · isplitr; · iexact HR
    isplitl [HO]; · iexact HO
    isplitl [HhF0]; · iexact HhF0
    iexact HsF0
  iintro ⟨HO, HhF0, HsF0⟩
  iapply (sent_hop I κ c true 1 1 2 rfl rfl) $$ [HO HhT1 HsT1]
  · isplitr; · iexact HR
    isplitl [HO]; · iexact HO
    isplitl [HhT1]; · iexact HhT1
    iexact HsT1
  iintro ⟨HO, HhT1, HsT1⟩
  iapply (sent_hop I κ c false 1 1 2 rfl rfl) $$ [HO HhF1 HsF1]
  · isplitr; · iexact HR
    isplitl [HO]; · iexact HO
    isplitl [HhF1]; · iexact HhF1
    iexact HsF1
  iintro ⟨HO, HhF1, HsF1⟩
  iapply hv
  iapply HQ
  isplitl [HO]; · iexact HO
  isplitl [HhF0]; · iexact HhF0
  isplitl [HsF0]; · iexact HsF0
  isplitl [HhT1]; · iexact HhT1
  isplitl [HsT1]; · iexact HsT1
  isplitl [HhF1]; · iexact HhF1
  iexact HsF1

theorem part34 {Q : (FVec F S512x768 .f32) → sProp 𝕄} :
    iprop(recs I κ c ∗ owesN 8 c ∗ hopC true 2 c ∗ slotAt I true 2 fullShare.right c ∗ hopC false 2 c ∗ slotAt I false 2 fullShare.right c ∗ woPts I
    c)
      ⊢ iprop(((owesN 8 c ∗ hopD true 2 c ∗ slotAt I true 2 fullShare c ∗ hopD false 2 c ∗ slotAt I false 2 fullShare c ∗ woPts I c) -∗ Q (outV I c))
        -∗ wpK c (k0_part34 (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1)
    (Memref.isWhole_whole _) cc0_scratch2 cc0_scratch3 cc0_scratch4 cc0_scratch5 (Ls I true c 0 3) (Os I true c 0 3) (Ls I true c 1 3) (Os I true c 1
    3) (Ls I true c 2 3) (Os I true c 2 3) (Ls I true c 3 3) (Os I true c 3 3) (Ls I true c 4 3) (Os I true c 4 3) (Ls I true c 5 3) (Os I true c 5 3)
    (Ls I true c 6 3) (Os I true c 6 3) (Ls I true c 7 3) (Os I true c 7 3) (Ls I false c 0 3) (Os I false c 0 3) (Ls I false c 1 3) (Os I false c 1
    3) (Ls I false c 2 3) (Os I false c 2 3) (Ls I false c 3 3) (Os I false c 3 3) (Ls I false c 4 3) (Os I false c 4 3) (Ls I false c 5 3) (Os I
    false c 5 3) (Ls I false c 6 3) (Os I false c 6 3) (Ls I false c 7 3) (Os I false c 7 3)) Q) := by
  rw [k0_part34_eq_skeleton]; unfold k0_part34_skel
  simp only [Prog.lift, Prog.bind_op, Prog.bind_ret, Prog.pure_eq_ret]
  iintro ⟨#HR, HO, HhT2, HsT2, HhF2, HsF2, HWo⟩ HQ
  have hv := wp_done (Q := Q) c (outV I c)
  iapply (sent_hop I κ c true 2 2 3 rfl rfl) $$ [HO HhT2 HsT2]
  · isplitr; · iexact HR
    isplitl [HO]; · iexact HO
    isplitl [HhT2]; · iexact HhT2
    iexact HsT2
  iintro ⟨HO, HhT2, HsT2⟩
  iapply (sent_hop I κ c false 2 2 3 rfl rfl) $$ [HO HhF2 HsF2]
  · isplitr; · iexact HR
    isplitl [HO]; · iexact HO
    isplitl [HhF2]; · iexact HhF2
    iexact HsF2
  iintro ⟨HO, HhF2, HsF2⟩
  iapply (wp_wo I c) $$ HWo; iintro HWo
  iapply hv
  iapply HQ
  isplitl [HO]; · iexact HO
  isplitl [HhT2]; · iexact HhT2
  isplitl [HsT2]; · iexact HsT2
  isplitl [HhF2]; · iexact HhF2
  isplitl [HsF2]; · iexact HsF2
  iexact HWo

end Cert.KernelIdealProof

end
-- ==== Proof.Body.lean ====
/-
The body of the kernel on one device: the parts in order, from the buffers as the launch leaves them to the stored
result.
-/
module

public import proofs.«01_k».proof.Proof.PartsA
public import proofs.«01_k».proof.Proof.PartsB

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

/-- One part, then the rest. -/
theorem wp_seq {α β : Type} (p : Prog (TpuEff nD τ sig (Elt F) Λ₀ .tc) β) (k : β → Prog (TpuEff nD τ sig (Elt F) Λ₀ .tc) α)
    (Q : α → sProp 𝕄) : wpK c p (fun a => wpK c (k a) Q) ⊢ wpK c (p >>= k) Q :=
  Entails.of_eq (wp_bind _ _ _ p k Q).symm

/-- The four slots of one ring's buffer, with any contents. -/
def ringBuf (e : Bool) : sProp 𝕄 :=
  iprop((∃ f, slotPts (F := F) e 0 fullShare c f) ∗ (∃ f, slotPts (F := F) e 1 fullShare c f)
    ∗ (∃ f, slotPts (F := F) e 2 fullShare c f) ∗ (∃ f, slotPts (F := F) e 3 fullShare c f))

/-- A ring's hops before the barrier. -/
def ringStart (e : Bool) : sProp 𝕄 :=
  iprop(dutyTok ER (barCell (frm e c)) 0 e ∗ hop0 (F := F) e 0 c ∗ hop0 e 1 c ∗ hop0 e 2 c)

/-- A ring's hops at the end. -/
def ringEnd (e : Bool) : sProp 𝕄 := iprop(hopD (F := F) e 0 c ∗ hopD e 1 c ∗ hopD e 2 c)

/-- The staged operands. -/
def insPts : sProp 𝕄 := iprop(xPts I c ∗ wqPts I c ∗ woPts I c ∗ kPts I c ∗ vPts I c)

/-- What the body starts from. -/
def bodyPre : sProp 𝕄 :=
  iprop(recs I κ c ∗ owesN 0 c ∗ (atPos ER (barCell c) 0 ∅ 0 ∗ cred (tallyAt (barCell c) () 2))
    ∗ (ringStart c true ∗ ringStart c false) ∗ (ringBuf c true ∗ ringBuf c false) ∗ insPts I c ∗ (∃ f, stg c cc0_stg5_0 f))

/-- What it leaves. -/
def bodyPost : sProp 𝕄 :=
  iprop(owesN 8 c ∗ atPos ER (barCell c) (0 + 1) ∅ 0
    ∗ (ringEnd c true ∗ ringEnd c false) ∗ (ringBuf c true ∗ ringBuf c false) ∗ insPts I c ∗ stg c cc0_stg5_0 (outV I c))

theorem body {Q : PUnit → sProp 𝕄} : iprop(bodyPre I κ c ∗ (bodyPost I c -∗ Q ⟨⟩)) ⊢ wpK c (cc0_body (Memref.whole cc0_stg0_0) (Memref.isWhole_whole
    _) (Memref.whole cc0_stg1_0) (Memref.isWhole_whole _) (Memref.whole cc0_stg2_0) (Memref.isWhole_whole _) (Memref.whole cc0_stg3_0)
    (Memref.isWhole_whole _) (Memref.whole cc0_stg4_0) (Memref.isWhole_whole _) (Memref.whole cc0_stg5_0) (Memref.isWhole_whole _) (Memref.whole
    cc0_scratch0) (Memref.isWhole_whole _) (Memref.whole cc0_scratch1) (Memref.isWhole_whole _) cc0_scratch2 cc0_scratch3 cc0_scratch4 cc0_scratch5) Q := by
  rw [cc0_body_eq_skeleton]; unfold cc0_body_skel bodyPre bodyPost ringStart ringEnd ringBuf insPts
  iintro ⟨⟨#HR, HO, ⟨Hat, Hc⟩, ⟨⟨HtT, HA0, HA1, HA2⟩, HtF, HB0, HB1, HB2⟩,
    ⟨⟨⟨%f0, HF0⟩, ⟨%f1, HF1⟩, ⟨%f2, HF2⟩, ⟨%f3, HF3⟩⟩, ⟨%g0, HG0⟩, ⟨%g1, HG1⟩, ⟨%g2, HG2⟩, ⟨%g3, HG3⟩⟩,
    ⟨HX, HW, HWo, HK, HV⟩, ⟨%fo, HOut⟩⟩, HQ⟩
  iapply (wp_seq c)
  iapply (part1 I κ c f1 f2 f3 g1 g2 g3) $$ [HO HtT HtF HF1 HF2 HF3 HG1 HG2 HG3 Hat Hc HX HW HK HV]
  · isplitr; · iexact HR
    isplitl [HO]; · iexact HO
    isplitl [HtT HtF]
    · isplitl [HtT]; · iexact HtT
      iexact HtF
    isplitl [HF1 HF2 HF3]
    · isplitl [HF1]; · iexact HF1
      isplitl [HF2]; · iexact HF2
      iexact HF3
    isplitl [HG1 HG2 HG3]
    · isplitl [HG1]; · iexact HG1
      isplitl [HG2]; · iexact HG2
      iexact HG3
    isplitl [Hat Hc]
    · isplitl [Hat]; · iexact Hat
      iexact Hc
    isplitl [HX]; · iexact HX
    isplitl [HW]; · iexact HW
    isplitl [HK]; · iexact HK
    iexact HV
  iintro %w5 %w7 ⟨HO, ⟨Hat, HbT, HbF⟩, HX, HW, HK, HV⟩
  ihave HhT := (hops_ready c true) $$ [HbT HA0 HA1 HA2]
  · isplitl [HbT]; · iexact HbT
    isplitl [HA0]; · iexact HA0
    isplitl [HA1]; · iexact HA1
    iexact HA2
  icases HhT with ⟨HhT0, HhT1, HhT2⟩
  ihave HhF := (hops_ready c false) $$ [HbF HB0 HB1 HB2]
  · isplitl [HbF]; · iexact HbF
    isplitl [HB0]; · iexact HB0
    isplitl [HB1]; · iexact HB1
    iexact HB2
  icases HhF with ⟨HhF0, HhF1, HhF2⟩
  ihave HFT := (fillPts_start I true c f0) $$ HF0
  ihave HFF := (fillPts_start I false c g0) $$ HG0
  iapply (wp_seq c)
  iapply (part2 I c) $$ [HFT HK HV]
  · isplitl [HFT]; · iexact HFT
    isplitl [HK]; · iexact HK
    iexact HV
  iintro ⟨HFT, HK, HV⟩
  iapply (wp_seq c)
  iapply (part3 I c) $$ [HFT HK HV]
  · isplitl [HFT]; · iexact HFT
    isplitl [HK]; · iexact HK
    iexact HV
  iintro ⟨HFT, HK, HV⟩
  iapply (wp_seq c)
  iapply (part4 I c) $$ [HFT HK HV]
  · isplitl [HFT]; · iexact HFT
    isplitl [HK]; · iexact HK
    iexact HV
  iintro ⟨HFT, HK, HV⟩
  iapply (wp_seq c)
  iapply (part5 I c) $$ [HFT HK HV]
  · isplitl [HFT]; · iexact HFT
    isplitl [HK]; · iexact HK
    iexact HV
  iintro ⟨HFT, HK, HV⟩
  iapply (wp_seq c)
  iapply (part6 I c) $$ [HK HV HFT]
  · isplitl [HK]; · iexact HK
    isplitl [HV]; · iexact HV
    iexact HFT
  iintro ⟨HK, HV, HFT⟩
  iapply (wp_seq c)
  iapply (part7 I c) $$ [HFT HK HV]
  · isplitl [HFT]; · iexact HFT
    isplitl [HK]; · iexact HK
    iexact HV
  iintro ⟨HFT, HK, HV⟩
  iapply (wp_seq c)
  iapply (part8 I κ c w7) $$ [HFT HO HhT0 HK HV]
  · isplitr; · iexact HR
    isplitl [HFT]; · iexact HFT
    isplitl [HO]; · iexact HO
    isplitl [HhT0]; · iexact HhT0
    isplitl [HK]; · iexact HK
    iexact HV
  iintro ⟨HO, HhT0, HsT0, HK, HV⟩
  iapply (wp_seq c)
  iapply (part9 I c) $$ [HFF HK HV]
  · isplitl [HFF]; · iexact HFF
    isplitl [HK]; · iexact HK
    iexact HV
  iintro ⟨HFF, HK, HV⟩
  iapply (wp_seq c)
  iapply (part10 I c) $$ [HFF HK HV]
  · isplitl [HFF]; · iexact HFF
    isplitl [HK]; · iexact HK
    iexact HV
  iintro ⟨HFF, HK, HV⟩
  iapply (wp_seq c)
  iapply (part11 I c) $$ [HFF HK HV]
  · isplitl [HFF]; · iexact HFF
    isplitl [HK]; · iexact HK
    iexact HV
  iintro ⟨HFF, HK, HV⟩
  iapply (wp_seq c)
  iapply (part12 I c) $$ [HFF HK HV]
  · isplitl [HFF]; · iexact HFF
    isplitl [HK]; · iexact HK
    iexact HV
  iintro ⟨HFF, HK, HV⟩
  iapply (wp_seq c)
  iapply (part13 I c) $$ [HFF HK HV]
  · isplitl [HFF]; · iexact HFF
    isplitl [HK]; · iexact HK
    iexact HV
  iintro ⟨HFF, HK, HV⟩
  iapply (wp_seq c)
  iapply (part14 I c) $$ [HK HV HFF]
  · isplitl [HK]; · iexact HK
    isplitl [HV]; · iexact HV
    iexact HFF
  iintro ⟨HK, HV, HFF⟩
  iapply (wp_seq c)
  iapply (part15 I κ c w5) $$ [HFF HO HhF0]
  · isplitr; · iexact HR
    isplitl [HFF]; · iexact HFF
    isplitl [HO]; · iexact HO
    iexact HhF0
  iintro ⟨HO, HhF0, HsF0⟩
  iapply (wp_seq c)
  iapply (part16 I κ c w5 w7) $$ [HO HhT0 HhF0 HhT1]
  · isplitr; · iexact HR
    isplitl [HO]; · iexact HO
    isplitl [HhT0]; · iexact HhT0
    isplitl [HhF0]; · iexact HhF0
    iexact HhT1
  iintro ⟨HO, HhT0, HsT1, HhF0, HsF1, HhT1⟩
  iapply (wp_seq c)
  iapply (part17 I κ c w5) $$ [HO HhF1 HsF1 HsT1]
  · isplitr; · iexact HR
    isplitl [HO]; · iexact HO
    isplitl [HhF1]; · iexact HhF1
    isplitl [HsF1]; · iexact HsF1
    iexact HsT1
  iintro ⟨HO, HhF1, HsF1, HsT1⟩
  iapply (wp_seq c)
  iapply (part18 I c)
  iapply (wp_seq c)
  iapply (part19 I c) $$ HsF1
  iintro HsF1
  iapply (wp_seq c)
  iapply (part20 I c)
  iapply (wp_seq c)
  iapply (part21 I c w7)
  iapply (wp_seq c)
  iapply (part22 I κ c w5 w7) $$ [HO HhT1 HhF1 HhT2]
  · isplitr; · iexact HR
    isplitl [HO]; · iexact HO
    isplitl [HhT1]; · iexact HhT1
    isplitl [HhF1]; · iexact HhF1
    iexact HhT2
  iintro ⟨HO, HhT1, HsT2, HhF1, HsF2, HhT2⟩
  iapply (wp_seq c)
  iapply (part23 I κ c) $$ [HO HhF2 HsF2 HsT2]
  · isplitr; · iexact HR
    isplitl [HO]; · iexact HO
    isplitl [HhF2]; · iexact HhF2
    isplitl [HsF2]; · iexact HsF2
    iexact HsT2
  iintro ⟨HO, HhF2, HsF2, HsT2⟩
  iapply (wp_seq c)
  iapply (part24 I c)
  iapply (wp_seq c)
  iapply (part25 I c) $$ HsF2
  iintro HsF2
  iapply (wp_seq c)
  iapply (part26 I c)
  iapply (wp_seq c)
  iapply (part27 I κ c w7) $$ [HO HhT2]
  · isplitr; · iexact HR
    isplitl [HO]; · iexact HO
    iexact HhT2
  iintro ⟨HO, HhT2, HsT3⟩
  iapply (wp_seq c)
  iapply (part28 I κ c w5) $$ [HO HhF2 HsT3]
  · isplitr; · iexact HR
    isplitl [HO]; · iexact HO
    isplitl [HhF2]; · iexact HhF2
    iexact HsT3
  iintro ⟨HO, HhF2, HsF3, HsT3⟩
  iapply (wp_seq c)
  iapply (part29 I c)
  iapply (wp_seq c)
  iapply (part30 I c) $$ HsF3
  iintro HsF3
  iapply (wp_seq c)
  iapply (part31 I c)
  iapply (wp_seq c)
  iapply (part32 I κ c) $$ [HO HhT0 HsT0]
  · isplitr; · iexact HR
    isplitl [HO]; · iexact HO
    isplitl [HhT0]; · iexact HhT0
    iexact HsT0
  iintro ⟨HO, HhT0, HsT0⟩
  iapply (wp_seq c)
  iapply (part33 I κ c) $$ [HO HhF0 HsF0 HhT1 HsT1 HhF1 HsF1]
  · isplitr; · iexact HR
    isplitl [HO]; · iexact HO
    isplitl [HhF0]; · iexact HhF0
    isplitl [HsF0]; · iexact HsF0
    isplitl [HhT1]; · iexact HhT1
    isplitl [HsT1]; · iexact HsT1
    isplitl [HhF1]; · iexact HhF1
    iexact HsF1
  iintro ⟨HO, HhF0, HsF0, HhT1, HsT1, HhF1, HsF1⟩
  iapply (wp_seq c)
  iapply (part34 I κ c) $$ [HO HhT2 HsT2 HhF2 HsF2 HWo]
  · isplitr; · iexact HR
    isplitl [HO]; · iexact HO
    isplitl [HhT2]; · iexact HhT2
    isplitl [HsT2]; · iexact HsT2
    isplitl [HhF2]; · iexact HhF2
    isplitl [HsF2]; · iexact HsF2
    iexact HWo
  iintro ⟨HO, HhT2, HsT2, HhF2, HsF2, HWo⟩
  simp only [Prog.lift, Prog.bind_op, Prog.bind_ret, Prog.pure_eq_ret]
  iapply (wp_out c fo (outV I c)) $$ HOut; iintro HOut
  iapply (wp_done (Q := Q) c ⟨⟩)
  iapply HQ
  isplitl [HO]; · iexact HO
  isplitl [Hat]; · iexact Hat
  isplitl [HhT0 HhT1 HhT2 HhF0 HhF1 HhF2]
  · isplitl [HhT0 HhT1 HhT2]
    · isplitl [HhT0]; · iexact HhT0
      isplitl [HhT1]; · iexact HhT1
      iexact HhT2
    isplitl [HhF0]; · iexact HhF0
    isplitl [HhF1]; · iexact HhF1
    iexact HhF2
  isplitl [HsT0 HsT1 HsT2 HsT3 HsF0 HsF1 HsF2 HsF3]
  · isplitl [HsT0 HsT1 HsT2 HsT3]
    · isplitl [HsT0]; · iexists _; iexact HsT0
      isplitl [HsT1]; · iexists _; iexact HsT1
      isplitl [HsT2]; · iexists _; iexact HsT2
      iexists _; iexact HsT3
    isplitl [HsF0]; · iexists _; iexact HsF0
    isplitl [HsF1]; · iexists _; iexact HsF1
    isplitl [HsF2]; · iexists _; iexact HsF2
    iexists _; iexact HsF3
  isplitl [HX HW HWo HK HV]
  · isplitl [HX]; · iexact HX
    isplitl [HW]; · iexact HW
    isplitl [HWo]; · iexact HWo
    isplitl [HK]; · iexact HK
    iexact HV
  iexact HOut

end Cert.KernelIdealProof

end
-- ==== Proof.Deal.lean ====
/-
  The launch of the protocol: every cell's invariant is allocated and its tokens are dealt to the devices that pay with them.
  The barrier cells are funded from their counters at once. The copies' cells belong to the region, so they are funded
  without their counters and opened when the region is entered.
-/
module

public import proofs.«01_k».proof.Proof.Body
public import Idealize.ShloMosaic.Lib.Pipeline.Regions

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ)

/-! ## The cells -/

/-- A hop of a ring. -/
abbrev Hop : Type := Bool × Fin 3

/-- The copies' semaphores: of each hop the send (`false`) and the receive (`true`) semaphore. -/
abbrev osem (x : Bool × Hop) : SemLoc sig := .dma (bif x.1 then rS x.2.1 x.2.2 else sS x.2.1 x.2.2)

theorem osem_inj : Function.Injective osem := by decide
theorem osem_ne_bar : ∀ x, osem x ≠ .reg barS := by decide

def barEmb : Dev nD ↪ GSem nD τ sig := ⟨fun c => barCell c, fun _ _ h => congrArg (fun g : GSem nD τ sig => g.1.1) h⟩
def hopEmb : Dev nD × (Bool × Hop) ↪ GSem nD τ sig :=
  ⟨fun y => ((y.1 : Thread nD τ), osem y.2), fun _ _ h =>
    Prod.ext (congrArg (fun g : GSem nD τ sig => g.1.1) h) (osem_inj (congrArg Prod.snd h))⟩

abbrev barCells : Finset (GSem nD τ sig) := Finset.univ.map barEmb
abbrev hopCells : Finset (GSem nD τ sig) := Finset.univ.map hopEmb
abbrev cells : Finset (GSem nD τ sig) := barCells ∪ hopCells

theorem disjoint_cells : Disjoint (barCells : Finset (GSem nD τ sig)) hopCells := by
  rw [Finset.disjoint_left]
  intro g h h'
  obtain ⟨c, -, rfl⟩ := Finset.mem_map.mp h
  obtain ⟨y, -, e⟩ := Finset.mem_map.mp h'
  exact osem_ne_bar y.2 (congrArg Prod.snd e)

theorem bar_mem (c : Dev nD) : barCell c ∈ cells :=
  Finset.mem_union_left _ (Finset.mem_map_of_mem barEmb (Finset.mem_univ c))
theorem s_mem (e : Bool) (k : Fin 3) (c : Dev nD) : sCell e k c ∈ cells :=
  Finset.mem_union_right _ (Finset.mem_map_of_mem hopEmb (Finset.mem_univ (c, (false, (e, k)))))
theorem r_mem (e : Bool) (k : Fin 3) (c : Dev nD) : rCell e k c ∈ cells :=
  Finset.mem_union_right _ (Finset.mem_map_of_mem hopEmb (Finset.mem_univ (c, (true, (e, k)))))

/-- The duties: two of a barrier cell, one of each copy's cell. -/
abbrev dutySem : Bool ⊕ (Bool × Hop) → SemLoc sig × Bool
  | .inl e => (.reg barS, e)
  | .inr x => (osem x, false)
theorem dutySem_inj : Function.Injective dutySem := by decide

def dutyEmb : Dev nD × (Bool ⊕ (Bool × Hop)) ↪ GSem nD τ sig × ℕ × Bool :=
  ⟨fun y => (((y.1 : Thread nD τ), (dutySem y.2).1), 0, (dutySem y.2).2), fun _ _ h =>
    Prod.ext (congrArg (fun t : GSem nD τ sig × ℕ × Bool => t.1.1.1) h)
      (dutySem_inj (Prod.ext (congrArg (fun t : GSem nD τ sig × ℕ × Bool => t.1.2) h)
        (congrArg (fun t : GSem nD τ sig × ℕ × Bool => t.2.2) h)))⟩
def duties : Finset (GSem nD τ sig × ℕ × Bool) := Finset.univ.map dutyEmb

/-! ## What every device may consult -/

def records : sProp 𝕄 :=
  iprop((bigSep cells fun g => cellInv ER (rd I) (κ g) g) ∗ bigSep barCells fun g => reached ER g 0)

instance records_persistent : BI.Persistent (records I κ) := by unfold records; infer_instance

theorem records_inv {g : GSem nD τ sig} (hg : g ∈ cells) : records I κ ⊢ cellInv ER (rd I) (κ g) g := by
  have h : (bigSep cells fun g => (cellInv ER (rd I) (κ g) g : sProp 𝕄)) ⊢ cellInv ER (rd I) (κ g) g := bigSep_elim hg
  unfold records
  iintro ⟨#H, -⟩
  iapply h
  iexact H
theorem records_bar (c : Dev nD) : records I κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, #H⟩
  iapply h
  iexact H

/-! ## What stays with one device -/

variable (c : Dev nD)

/-- Of a hop, before the region is entered. -/
def hopL (x : Hop) : sProp 𝕄 :=
  iprop((openTok ER (sCell x.1 x.2 c) ∗ openTok ER (rCell x.1 x.2 c))
    ∗ (dutyTok ER (sCell x.1 x.2 c) 0 false ∗ dutyTok ER (rCell x.1 x.2 (tgt x.1 c)) 0 false) ∗ cred (tallyAt (rCell x.1 x.2 c) () N))
/-- Of the barrier. -/
def barL : sProp 𝕄 :=
  iprop((atPos ER (barCell c) 0 ∅ 0 ∗ cred (tallyAt (barCell c) () 2))
    ∗ (dutyTok ER (barCell (frm true c)) 0 true ∗ dutyTok ER (barCell (frm false c)) 0 false))

/-- The counters of a hop at zero. -/
def hopZ (x : Hop) : sProp 𝕄 := iprop(semVal (sCell x.1 x.2 c) 0 ∗ semVal (rCell x.1 x.2 c) 0)

omit [FloatOps F] in
theorem six (Φ : Hop → sProp 𝕄) : bigSep Finset.univ Φ
    = iprop((Φ (true, 0) ∗ Φ (true, 1) ∗ Φ (true, 2)) ∗ Φ (false, 0) ∗ Φ (false, 1) ∗ Φ (false, 2)) := by
  rw [bigSep_univ_prod, bigSep_univ_eq_bigSepL [true, false] (by decide) (by decide), bigSepL_cons_cons, bigSepL_singleton,
    bigSep_univ_eq_bigSepL [0, 1, 2] (by decide) (by decide), bigSepL_cons_cons, bigSepL_cons_cons, bigSepL_singleton,
    bigSep_univ_eq_bigSepL [0, 1, 2] (by decide) (by decide), bigSepL_cons_cons, bigSepL_cons_cons, bigSepL_singleton]
  rfl

omit [FloatOps F] in
theorem two (Φ : Bool → sProp 𝕄) : bigSep Finset.univ Φ = iprop(Φ true ∗ Φ false) := by
  rw [bigSep_univ_eq_bigSepL [true, false] (by decide) (by decide), bigSepL_cons_cons, bigSepL_singleton]
  rfl

omit [FloatOps F] in
theorem byHop (Φ : Bool × Hop → sProp 𝕄) : bigSep Finset.univ Φ = bigSep Finset.univ fun x : Hop => iprop(Φ (false, x) ∗ Φ (true, x)) := by
  rw [bigSep_univ_prod, two, bigSep_sep']
  exact BI.equiv_iff.mp ⟨BI.sep_comm, BI.sep_comm⟩

omit [FloatOps F] in
/-- The region's own counters, hop by hop. -/
theorem own_eq : (Pipeline.ownSems0 osem c : sProp 𝕄) = bigSep Finset.univ (hopZ c) := by
  unfold Pipeline.ownSems0
  rw [byHop]
  rfl

/-- A hop's cells are opened. -/
theorem hop_open (x : Hop) : iprop(records I κ ∗ hopL c x ∗ hopZ c x)
    ⊢ |={Set.univ}=> iprop(ringRecs I κ x.1 x.2 c ∗ hop0 x.1 x.2 c) := by
  unfold hopL hopZ ringRecs hop0
  iintro ⟨#HR, ⟨⟨HoS, HoR⟩, ⟨HtS, HtR⟩, Hc⟩, HzS, HzR⟩
  imod (Rounds.cell_open ER (rd I) (g := sCell x.1 x.2 c) (Set.mem_univ (κ (sCell x.1 x.2 c)))) $$ [HoS HzS] with ⟨HaS, #HrS⟩
  · isplitr; · iapply (records_inv I κ (s_mem x.1 x.2 c)); iexact HR
    isplitl [HoS] <;> iassumption
  imod (Rounds.cell_open ER (rd I) (g := rCell x.1 x.2 c) (Set.mem_univ (κ (rCell x.1 x.2 c)))) $$ [HoR HzR] with ⟨HaR, #HrR⟩
  · isplitr; · iapply (records_inv I κ (r_mem x.1 x.2 c)); iexact HR
    isplitl [HoR] <;> iassumption
  imodintro
  isplitr
  · isplitr; · iapply (records_inv I κ (s_mem x.1 x.2 c)); iexact HR
    isplitr; · iapply (records_inv I κ (r_mem x.1 x.2 c)); iexact HR
    isplitr; · iapply (records_inv I κ (r_mem x.1 x.2 (tgt x.1 c))); iexact HR
    isplitr; · iexact HrS
    iexact HrR
  isplitl [HaS]; · iexact HaS
  isplitl [HaR]; · iexact HaR
  isplitl [HtS]; · iexact HtS
  isplitl [HtR]; · iexact HtR
  iexact Hc

/-- A hop's cells are closed. -/
theorem hop_close (e : Bool) (k : Fin 3) : iprop(recs I κ c ∗ hopD e k c) ⊢ |={Set.univ}=> hopZ c (e, k) := by
  unfold hopD hopZ
  iintro ⟨#HR, HaS, HaR⟩
  ihave #HK := (recs_ring I κ e k c) $$ HR
  unfold ringRecs
  icases HK with ⟨#HS, #HV, -⟩
  imod (Rounds.cell_close ER (rd I) (g := sCell e k c) (Set.mem_univ (κ (sCell e k c))) id
    (duties_later (packed I) (sCell e k c))) $$ [HaS] with HzS
  · isplitr; · iexact HS
    iexact HaS
  imod (Rounds.cell_close ER (rd I) (g := rCell e k c) (Set.mem_univ (κ (rCell e k c))) id
    (duties_later (packed I) (rCell e k c))) $$ [HaR] with HzR
  · isplitr; · iexact HV
    iexact HaR
  imodintro
  isplitl [HzS] <;> iassumption

theorem bar_close : iprop(recs I κ c ∗ atPos ER (barCell c) (0 + 1) ∅ 0) ⊢ |={Set.univ}=> semVal (barCell c) 0 := by
  iintro ⟨#HR, Ha⟩
  imod (Rounds.cell_close ER (rd I) (g := barCell c) (Set.mem_univ (κ (barCell c))) id
    (duties_later (packed I) (barCell c))) $$ [Ha] with Hz
  · isplitr; · iapply (recs_bar I κ c); iexact HR
    iexact Ha
  imodintro
  iexact Hz

theorem ring_close (e : Bool) : iprop(recs I κ c ∗ ringEnd c e)
    ⊢ |={Set.univ}=> iprop(hopZ c (e, 0) ∗ hopZ c (e, 1) ∗ hopZ c (e, 2)) := by
  unfold ringEnd
  iintro ⟨#HR, H0, H1, H2⟩
  imod (hop_close I κ c e 0) $$ [H0] with H0
  · isplitr; · iexact HR
    iexact H0
  imod (hop_close I κ c e 1) $$ [H1] with H1
  · isplitr; · iexact HR
    iexact H1
  imod (hop_close I κ c e 2) $$ [H2] with H2
  · isplitr; · iexact HR
    iexact H2
  imodintro
  isplitl [H0]; · iexact H0
  isplitl [H1] <;> iassumption

/-- What a device keeps from the launch, and what it has once the region's counters are in. -/
def keep : sProp 𝕄 := iprop(∃ κ, records I κ ∗ barL c ∗ bigSep Finset.univ (hopL c))
def opened : sProp 𝕄 :=
  iprop(∃ κ, recs I κ c ∗ (atPos ER (barCell c) 0 ∅ 0 ∗ cred (tallyAt (barCell c) () 2)) ∗ ringStart c true ∗ ringStart c false)

theorem open_all : iprop(keep I c ∗ Pipeline.ownSems0 osem c ∗ levAts L lv) ⊢ |={Set.univ}=> opened I c := by
  have h (κ : GSem nD τ sig → ℕ) : iprop(records I κ ∗ bigSep Finset.univ fun x : Hop => iprop(hopL c x ∗ hopZ c x))
      ⊢ |={Set.univ}=> bigSep Finset.univ fun x : Hop => iprop(ringRecs I κ x.1 x.2 c ∗ hop0 x.1 x.2 c) :=
    (bigSep_with_persistent (R := records I κ) fun x _ => hop_open I κ c x).trans (bigSep_fupd _ _)
  unfold keep opened barL
  rw [own_eq]
  iintro ⟨⟨%κ, #HR, ⟨Hat, HtT, HtF⟩, HL⟩, HZ, #Hlev⟩
  imod (h κ) $$ [HL HZ] with H
  · isplitr; · iexact HR
    iapply (Entails.of_eq (bigSep_sep' Finset.univ (hopL c) (hopZ c)).symm)
    isplitl [HL] <;> iassumption
  imodintro
  ihave H' := (Entails.of_eq (bigSep_sep' Finset.univ (fun x : Hop => ringRecs I κ x.1 x.2 c) fun x => hop0 x.1 x.2 c)) $$ H
  icases H' with ⟨#HK, HH⟩
  ihave HK' := (Entails.of_eq (six fun x : Hop => ringRecs I κ x.1 x.2 c)) $$ HK
  ihave HH' := (Entails.of_eq (six fun x : Hop => hop0 x.1 x.2 c)) $$ HH
  icases HH' with ⟨HhT, HhF⟩
  iexists κ
  isplitl [HK']
  · unfold recs
    isplitr; · iexact Hlev
    isplitr
    · isplitr; · iapply (records_inv I κ (bar_mem c)); iexact HR
      isplitr
      · isplitr; · iapply (records_inv I κ (bar_mem (prv c))); iexact HR
        iapply (records_bar I κ (prv c)); iexact HR
      isplitr; · iapply (records_inv I κ (bar_mem (nxt c))); iexact HR
      iapply (records_bar I κ (nxt c)); iexact HR
    iexact HK'
  isplitl [Hat]; · iexact Hat
  unfold ringStart
  isplitl [HtT HhT]
  · isplitl [HtT]; · iexact HtT
    iexact HhT
  isplitl [HtF]; · iexact HtF
  iexact HhF

/-! ## The tokens, dealt -/

/-- The tokens of a device's own cells. -/
def toks : sProp 𝕄 :=
  iprop((dutyTok ER (barCell c) 0 true ∗ dutyTok ER (barCell c) 0 false)
    ∗ bigSep Finset.univ fun x : Hop => iprop(dutyTok ER (sCell x.1 x.2 c) 0 false ∗ dutyTok ER (rCell x.1 x.2 c) 0 false))
/-- The tokens a device pays with. -/
def pays : sProp 𝕄 :=
  iprop((dutyTok ER (barCell (frm true c)) 0 true ∗ dutyTok ER (barCell (frm false c)) 0 false)
    ∗ bigSep Finset.univ fun x : Hop => iprop(dutyTok ER (sCell x.1 x.2 c) 0 false ∗ dutyTok ER (rCell x.1 x.2 (tgt x.1 c)) 0 false))

/-- A device's place taken by the one it receives from, or sends to. -/
def around (e : Bool) : Dev nD ≃ Dev nD := ⟨frm e, tgt e, tgt_frm e, frm_tgt e⟩

omit [FloatOps F] in
theorem toks_eq : bigSep duties (fun t => (dutyTok ER t.1 t.2.1 t.2.2 : sProp 𝕄)) = bigSep Finset.univ fun c : Dev nD => toks c := by
  unfold duties
  rw [bigSep_map, bigSep_univ_prod]
  refine bigSep_congr fun c _ => ?_
  rw [bigSep_univ_sum, two, byHop]
  rfl

omit [FloatOps F] in
theorem deal : (bigSep Finset.univ fun c : Dev nD => (toks c : sProp 𝕄)) = bigSep Finset.univ fun c : Dev nD => pays c := by
  have hb (e : Bool) : (bigSep Finset.univ fun c : Dev nD => (dutyTok ER (barCell c) 0 e : sProp 𝕄))
      = bigSep Finset.univ fun c : Dev nD => dutyTok ER (barCell (frm e c)) 0 e :=
    bigSep_univ_equiv (around e) fun c : Dev nD => (dutyTok ER (barCell c) 0 e : sProp 𝕄)
  have hr (x : Hop) : (bigSep Finset.univ fun c : Dev nD => (dutyTok ER (rCell x.1 x.2 c) 0 false : sProp 𝕄))
      = bigSep Finset.univ fun c : Dev nD => dutyTok ER (rCell x.1 x.2 (tgt x.1 c)) 0 false :=
    bigSep_univ_equiv (around x.1).symm fun c : Dev nD => (dutyTok ER (rCell x.1 x.2 c) 0 false : sProp 𝕄)
  unfold toks pays
  simp only [bigSep_sep', six, hb]
  rw [hr (true, 0), hr (true, 1), hr (true, 2), hr (false, 0), hr (false, 1), hr (false, 2)]

/-! ## The credit, dealt -/

theorem oSum_apply (l : List (GSem nD τ sig × ℕ)) (g : GSem nD τ sig) :
    oSum l g () = (l.map fun p => if g = p.1 then p.2 else 0).sum := by
  induction l with
  | nil => rfl
  | cons p l ih =>
    unfold oSum
    rw [Pi.add_apply, Finsupp.add_apply, tallyAt_apply, ih, List.map_cons, List.sum_cons, Nat.add_comm]
    simp only [and_true]

theorem bar_eq (a b : Dev nD) : barCell a = barCell b ↔ a = b :=
  ⟨fun h => congrArg (fun g : GSem nD τ sig => g.1.1) h, fun h => h ▸ rfl⟩
theorem bar_ne_r (e : Bool) (k : Fin 3) (a b : Dev nD) : barCell a ≠ rCell e k b := fun h => by
  have := congrArg Prod.snd h; cases this
theorem r_ne_bar (e : Bool) (k : Fin 3) (a b : Dev nD) : rCell e k b ≠ barCell a := fun h => bar_ne_r e k a b h.symm
theorem r_eq (e e' : Bool) (k k' : Fin 3) (a b : Dev nD) : rCell e k a = rCell e' k' b ↔ a = b ∧ e = e' ∧ k = k' := by
  constructor
  · intro h
    have h1 : a = b := congrArg (fun g : GSem nD τ sig => g.1.1) h
    have h2 : rS e k = rS e' k' := by have := congrArg Prod.snd h; exact SemLoc.dma.inj this
    refine ⟨h1, ?_⟩
    have h3 := congrArg ringOf h2
    have h4 := congrArg hopOf h2
    rw [ringOf_r, ringOf_r] at h3
    rw [hopOf_r, hopOf_r] at h4
    exact ⟨h3, h4⟩
  · rintro ⟨rfl, rfl, rfl⟩; rfl

theorem sum_bar (c : Dev nD) : (∑ d : Dev nD, owed 0 d (barCell c) ()) = 2 := by
  have h (d : Dev nD) : owed 0 d (barCell c) () = (if c = prv d then 1 else 0) + (if c = nxt d then 1 else 0) := by
    unfold owed todo
    rw [List.drop_zero, oSum_apply]
    simp only [List.map_cons, List.map_nil, List.sum_cons, List.sum_nil, bar_eq, bar_ne_r, if_false]
    omega
  rw [Finset.sum_congr rfl fun d _ => h d]
  clear h
  revert c; decide

theorem sum_r (e : Bool) (k : Fin 3) (c : Dev nD) : (∑ d : Dev nD, owed 0 d (rCell e k c) ()) = N := by
  have h (d : Dev nD) : owed 0 d (rCell e k c) () = if d = frm e c then N else 0 := by
    have hd : (d = frm e c) ↔ c = tgt e d := ⟨fun h => by rw [h, tgt_frm], fun h => by rw [h, frm_tgt]⟩
    rw [if_congr hd rfl rfl]
    unfold owed todo
    rw [List.drop_zero, oSum_apply]
    simp only [List.map_cons, List.map_nil, List.sum_cons, List.sum_nil, r_eq, r_ne_bar, if_false]
    generalize N = n
    cases e <;> fin_cases k <;> simp [tgt]
  rw [Finset.sum_congr rfl fun d _ => h d, Finset.sum_ite_eq' Finset.univ (frm e c) fun _ => N, if_pos (Finset.mem_univ _)]

theorem credit_bar (c : Dev nD) :
    tallyOn (barCell c) (launchCredit (Pipeline.owing (owed 0)) 0 (barCell c)) = (tallyAt (barCell c) () 2 : CellTallies nD τ sig Unit) := by
  unfold tallyAt
  refine congrArg _ (Finsupp.ext fun u => ?_)
  cases u
  rw [Pipeline.launchCredit_owing, Finsupp.single_eq_same, sum_bar]
theorem credit_r (e : Bool) (k : Fin 3) (c : Dev nD) :
    tallyOn (rCell e k c) (launchCredit (Pipeline.owing (owed 0)) 0 (rCell e k c)) = (tallyAt (rCell e k c) () N : CellTallies nD τ sig Unit) := by
  unfold tallyAt
  refine congrArg _ (Finsupp.ext fun u => ?_)
  cases u
  rw [Pipeline.launchCredit_owing, Finsupp.single_eq_same, sum_r]

def rEmb : Hop ↪ SemLoc sig := ⟨fun x => .dma (rS x.1 x.2), by decide⟩

omit [FloatOps F] in
theorem creds (c : Dev nD) : (Pipeline.launchCred (owed 0) c : sProp 𝕄)
    ⊢ iprop(cred (tallyAt (barCell c) () 2) ∗ bigSep Finset.univ fun x : Hop => cred (tallyAt (rCell x.1 x.2 c) () N)) := by
  unfold Pipeline.launchCred
  rw [bigSep_univ_at _ (SemLoc.reg barS), credit_bar]
  refine sep_mono_right ?_
  have hsub : (Finset.univ : Finset Hop).map rEmb ⊆ (Finset.univ : Finset (SemLoc sig)).erase (.reg barS) := fun s hs => by
    obtain ⟨x, -, rfl⟩ := Finset.mem_map.mp hs
    exact Finset.mem_erase.mpr ⟨nofun, Finset.mem_univ _⟩
  have hs := bigSep_subset hsub (Φ := fun sm => (cred (tallyOn ((c : Thread nD τ), sm)
    (launchCredit (Pipeline.owing (owed 0)) 0 ((c : Thread nD τ), sm))) : sProp 𝕄))
  rw [bigSep_map] at hs
  rw [bigSep_congr (s := (Finset.univ : Finset Hop)) (Ψ := fun x : Hop => (cred (tallyAt (rCell x.1 x.2 c) () N) : sProp 𝕄))
    fun x _ => by rw [← credit_r]; rfl] at hs
  exact hs

/-! ## Funding -/

/-- A resource as a family over the devices: all of it on device 0. -/
def parked (X : sProp 𝕄) (c : Dev nD) : sProp 𝕄 := if c = 0 then X else iprop(emp)
omit [FloatOps F] in
theorem parked_all (X : sProp 𝕄) : bigSep Finset.univ (parked X) = X := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

omit [FloatOps F] in
theorem split2 (Φ Ψ : Dev nD → sProp 𝕄) : bigSep Finset.univ (fun c => iprop(Φ c ∗ Ψ c)) = iprop(bigSep Finset.univ Φ ∗ bigSep Finset.univ Ψ) :=
  bigSep_sep' _ _ _

/-- From the barrier counters at zero, the launch element and the devices' credit: every device's part. -/
theorem fund_all : iprop((bigSep Finset.univ fun c : Dev nD => (semVal (barCell c) 0 : sProp 𝕄))
      ∗ BI.own (ER (launchOf barCells hopCells duties)) ∗ bigSep Finset.univ fun c : Dev nD => Pipeline.launchCred (owed 0) c)
    ⊢ |={Set.univ}=> bigSep Finset.univ (keep I) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep hopCells (fun g => (openTok ER g : sProp 𝕄))
      ⊢ bigSep Finset.univ fun c : Dev nD => bigSep Finset.univ fun x : Hop => iprop(openTok ER (sCell x.1 x.2 c) ∗ openTok ER (rCell x.1 x.2 c)) :=
    Entails.of_eq (by
      rw [bigSep_map, bigSep_univ_prod]
      exact bigSep_congr fun c _ => by rw [byHop]; rfl)
  have hone (κ : GSem nD τ sig → ℕ) (c : Dev nD) : iprop(records I κ ∗ (atPos ER (barCell c) 0 ∅ 0
        ∗ (bigSep Finset.univ fun x : Hop => iprop(openTok ER (sCell x.1 x.2 c) ∗ openTok ER (rCell x.1 x.2 c)))
        ∗ pays c ∗ Pipeline.launchCred (owed 0) c)) ⊢ keep I c := by
    unfold keep barL hopL pays
    iintro ⟨#HR, Hat, Ho, ⟨Hb, Hh⟩, Hc⟩
    ihave Hc' := (creds c) $$ Hc
    icases Hc' with ⟨HcB, HcR⟩
    iexists κ
    isplitr; · iexact HR
    isplitl [Hat HcB Hb]
    · isplitl [Hat HcB]
      · isplitl [Hat] <;> iassumption
      iexact Hb
    simp only [bigSep_sep']
    isplitl [Ho]; · iexact Ho
    isplitl [Hh] <;> iassumption
  iintro ⟨Hv, Hu, Hc⟩
  imod (Rounds.fund_launch ER (rd I) disjoint_cells (fun g _ h => h) duties) $$ [Hv Hu] with ⟨%κ, -, #Hinv, #Hr, Hat, Hopen, Htok⟩
  · isplitl [Hv]
    · iapply hv $$ Hv
    · iexact Hu
  imodintro
  iapply (bigSep_with_persistent (R := records I κ) fun c _ => hone κ c)
  isplitr
  · unfold records
    isplitr; · iexact Hinv
    iexact Hr
  simp only [split2]
  isplitl [Hat]; · iapply hat $$ Hat
  isplitl [Hopen]; · iapply hop $$ Hopen
  isplitl [Htok]
  · iapply (Entails.of_eq ((toks_eq (F := F)).trans deal)) $$ Htok
  iexact Hc

end Cert.KernelIdealProof

end
-- ==== Proof.Region.lean ====
/-
  The region of the program: its proof data, its one point (the body, with the copies' cells closed at the end), and
  the region as a step of the program, which pays all the device owed when it was entered.
-/
module

public import proofs.«01_k».proof.Proof.Deal
public import proofs.«01_k».proof.Proof.Gen.KernelIdeal.Frame
public import Idealize.ShloMosaic.Lib.Pipeline.RegionTalk

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## The scratch buffers, slot by slot -/

/-- A ring's scratch buffer, whole, at contents not chosen. -/
def scr (e : Bool) : sProp 𝕄 := iprop(∃ f, (bufM e).view.loc (c : Thread nD τ) ↦[(bufM e).view.set]{fullShare} f)

theorem scr_split (e : Bool) : (scr c e : sProp 𝕄) ⊢ ringBuf c e := by
  unfold scr ringBuf
  iintro ⟨%f, H⟩
  ihave H' := (slots_split e c f) $$ H
  icases H' with ⟨H0, H1, H2, H3⟩
  isplitl [H0]; · iexists f; iexact H0
  isplitl [H1]; · iexists f; iexact H1
  isplitl [H2]; · iexists f; iexact H2
  iexists f; iexact H3

theorem scr_join (e : Bool) : (ringBuf c e : sProp 𝕄) ⊢ scr c e := by
  unfold scr ringBuf
  iintro ⟨⟨%f0, H0⟩, ⟨%f1, H1⟩, ⟨%f2, H2⟩, ⟨%f3, H3⟩⟩
  iapply (slots_join e c (fun k => match k with | 0 => f0 | 1 => f1 | 2 => f2 | 3 => f3))
  isplitl [H0]; · iexact H0
  isplitl [H1]; · iexact H1
  isplitl [H2]; · iexact H2
  iexact H3

theorem scr_true : (scr c true : sProp 𝕄)
    = iprop(∃ f : Buf (Elt F) ((c : Thread nD τ).loc cc0_scratch0), ((c : Thread nD τ).loc cc0_scratch0) ↦{fullShare} f) := by
  unfold scr
  show iprop(∃ f, (Memref.whole cc0_scratch0).view.loc (c : Thread nD τ) ↦[(Memref.whole cc0_scratch0).view.set]{fullShare} f) = _
  simp only [Memref.view_whole, View.set_whole]
theorem scr_false : (scr c false : sProp 𝕄)
    = iprop(∃ f : Buf (Elt F) ((c : Thread nD τ).loc cc0_scratch1), ((c : Thread nD τ).loc cc0_scratch1) ↦{fullShare} f) := by
  unfold scr
  show iprop(∃ f, (Memref.whole cc0_scratch1).view.loc (c : Thread nD τ) ↦[(Memref.whole cc0_scratch1).view.set]{fullShare} f) = _
  simp only [Memref.view_whole, View.set_whole]
theorem rest_eq : (Pipeline.scopedRest spec0 c : sProp 𝕄) = iprop(scr c true ∗ scr c false) := by
  rw [scopedRest0_eq, scr_true, scr_false]

/-! ## The proof data -/

/-- What the body reads: the windows' blocks as the region finds them. -/
def insOf : Ins F := ⟨fun c => iblk m c 0 t0_0, fun c => iblk m c 1 t0_0, fun c => iblk m c 2 t0_0, fun c => iblk m c 3 t0_0, fun c => iblk m c 4 t0_0⟩

def Φ0 : sProp 𝕄 := iprop(opened (insOf m) c ∗ (scr c true ∗ scr c false) ∗ ∃ r, prngReg c r)
def Φ1 : sProp 𝕄 := iprop(semVal (barCell c) 0 ∗ bigSep Finset.univ (hopZ c) ∗ (scr c true ∗ scr c false) ∗ ∃ r, prngReg c r)

def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (insOf m) c
  Φ t := if t.val = 0 then Φ0 m c else Φ1 c
  q _ := fullShare
  owed t := if t.val = 0 then owed 0 c else 0

theorem Φ_first : (dat0 m c).Φ 0 = Φ0 m c := by
  show (if ((0 : Fin (cfg0.N + 1)).val = 0) then Φ0 m c else Φ1 c) = Φ0 m c
  exact if_pos rfl
theorem Φ_before : (dat0 m c).Φ (t0_0 : Fin cfg0.N).castSucc = Φ0 m c := by
  show (if (((t0_0 : Fin cfg0.N).castSucc : Fin (cfg0.N + 1)).val = 0) then Φ0 m c else Φ1 c) = Φ0 m c
  exact if_pos rfl
theorem Φ_after : (dat0 m c).Φ (t0_0 : Fin cfg0.N).succ = Φ1 c := by
  show (if (((t0_0 : Fin cfg0.N).succ : Fin (cfg0.N + 1)).val = 0) then Φ0 m c else Φ1 c) = Φ1 c
  exact if_neg (by decide)
theorem Φ_last : (dat0 m c).Φ (Fin.last cfg0.N) = Φ1 c := by
  show (if ((Fin.last cfg0.N).val = 0) then Φ0 m c else Φ1 c) = Φ1 c
  rw [Fin.val_last]
  exact if_neg (by rw [show cfg0.N = 1 from N_0]; decide)
theorem owed_first : (dat0 m c).owed 0 = owed 0 c := by
  show (if ((0 : Fin (cfg0.N + 1)).val = 0) then owed 0 c else 0) = owed 0 c
  exact if_pos rfl
theorem owed_before : (dat0 m c).owed (t0_0 : Fin cfg0.N).castSucc = owed 0 c := by
  show (if (((t0_0 : Fin cfg0.N).castSucc : Fin (cfg0.N + 1)).val = 0) then owed 0 c else 0) = owed 0 c
  exact if_pos rfl
theorem owed_after : (dat0 m c).owed (t0_0 : Fin cfg0.N).succ = 0 := by
  show (if (((t0_0 : Fin cfg0.N).succ : Fin (cfg0.N + 1)).val = 0) then owed 0 c else 0) = 0
  exact if_neg (by decide)
theorem owed_last : (dat0 m c).owed (Fin.last cfg0.N) = 0 := by
  show (if ((Fin.last cfg0.N).val = 0) then owed 0 c else 0) = 0
  rw [Fin.val_last]
  exact if_neg (by rw [show cfg0.N = 1 from N_0]; decide)

theorem before_0 (t : Fin cfg0.N) (d) : (dat0 m c).before 0 t d = iblk m c 0 t :=
  ((dat0 m c).before_in_eq_fetched 0 rfl (fun _ => rfl) (fun _ _ _ => rfl) (fun t => rfl) t d).trans rfl
theorem before_1 (t : Fin cfg0.N) (d) : (dat0 m c).before 1 t d = iblk m c 1 t :=
  ((dat0 m c).before_in_eq_fetched 1 rfl (fun _ => rfl) (fun _ _ _ => rfl) (fun t => rfl) t d).trans rfl
theorem before_2 (t : Fin cfg0.N) (d) : (dat0 m c).before 2 t d = iblk m c 2 t :=
  ((dat0 m c).before_in_eq_fetched 2 rfl (fun _ => rfl) (fun _ _ _ => rfl) (fun t => rfl) t d).trans rfl
theorem before_3 (t : Fin cfg0.N) (d) : (dat0 m c).before 3 t d = iblk m c 3 t :=
  ((dat0 m c).before_in_eq_fetched 3 rfl (fun _ => rfl) (fun _ _ _ => rfl) (fun t => rfl) t d).trans rfl
theorem before_4 (t : Fin cfg0.N) (d) : (dat0 m c).before 4 t d = iblk m c 4 t :=
  ((dat0 m c).before_in_eq_fetched 4 rfl (fun _ => rfl) (fun _ _ _ => rfl) (fun t => rfl) t d).trans rfl

/-! ## The body at its one point -/

theorem owes_in (dat : Dat τ (Elt F) Unit ℕ UU ℕ cfg0 c) (t : Fin (cfg0.N + 1)) (O : CellTallies nD τ sig Unit) (h0 : dat.owed t = O)
    (hr : dat.recorded t = Set.univ) : iprop(∃ W, owes (c : Thread nD τ) O W) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owes_out (dat : Dat τ (Elt F) Unit ℕ UU ℕ cfg0 c) (t : Fin (cfg0.N + 1)) (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ stg c b f) := by
  unfold owns; simp only [Memref.view_whole, View.read_whole, View.set_whole]

/-- The body, ending with the copies' cells and the barrier cell closed. -/
theorem body_closed (I : Ins F) {Q : PUnit → sProp 𝕄} :
    iprop((opened I c ∗ (scr c true ∗ scr c false) ∗ owesN 0 c ∗ insPts I c ∗ (∃ f, stg c cc0_stg5_0 f))
      ∗ ((semVal (barCell c) 0 ∗ bigSep Finset.univ (hopZ c) ∗ (scr c true ∗ scr c false) ∗ owesN 8 c ∗ insPts I c
          ∗ stg c cc0_stg5_0 (outV I c)) -∗ Q ⟨⟩))
    ⊢ wpK c (cc0_body (Memref.whole cc0_stg0_0) (Memref.isWhole_whole
    _) (Memref.whole cc0_stg1_0) (Memref.isWhole_whole _) (Memref.whole cc0_stg2_0) (Memref.isWhole_whole _) (Memref.whole cc0_stg3_0)
    (Memref.isWhole_whole _) (Memref.whole cc0_stg4_0) (Memref.isWhole_whole _) (Memref.whole cc0_stg5_0) (Memref.isWhole_whole _) (Memref.whole
    cc0_scratch0) (Memref.isWhole_whole _) (Memref.whole cc0_scratch1) (Memref.isWhole_whole _) cc0_scratch2 cc0_scratch3 cc0_scratch4 cc0_scratch5) Q := by
  unfold opened
  iintro ⟨⟨⟨%κ, #HR, Hbar, HsT, HsF⟩, ⟨HbT, HbF⟩, HO, HI, Hout⟩, HQ⟩
  iapply (wp_fupd _ _ _ _ Q)
  iapply (body I κ c)
  unfold bodyPre bodyPost
  isplitl [Hbar HsT HsF HbT HbF HO HI Hout]
  · isplitr; · iexact HR
    isplitl [HO]; · iexact HO
    isplitl [Hbar]; · iexact Hbar
    isplitl [HsT HsF]
    · isplitl [HsT]; · iexact HsT
      iexact HsF
    isplitl [HbT HbF]
    · isplitl [HbT]
      · iapply (scr_split c true); iexact HbT
      iapply (scr_split c false); iexact HbF
    isplitl [HI]; · iexact HI
    iexact Hout
  iintro ⟨HO, Hat, ⟨HeT, HeF⟩, ⟨HbT, HbF⟩, HI, Hout⟩
  imod (bar_close I κ c) $$ [Hat] with Hz
  · isplitr; · iexact HR
    iexact Hat
  imod (ring_close I κ c true) $$ [HeT] with HzT
  · isplitr; · iexact HR
    iexact HeT
  imod (ring_close I κ c false) $$ [HeF] with HzF
  · isplitr; · iexact HR
    iexact HeF
  imodintro
  iapply HQ
  isplitl [Hz]; · iexact Hz
  isplitl [HzT HzF]
  · iapply (Entails.of_eq (six (hopZ c)).symm)
    isplitl [HzT]; · iexact HzT
    iexact HzF
  isplitl [HbT HbF]
  · isplitl [HbT]
    · iapply (scr_join c true); iexact HbT
    iapply (scr_join c false); iexact HbF
  isplitl [HO]; · iexact HO
  isplitl [HI]; · iexact HI
  iexact Hout

set_option maxRecDepth 16384 in
theorem obligation : BodyObligation (dat0 m c) defs₀ 𝒱₀ () Set.univ := fun t => by
  obtain rfl := fin_N0 t
  rw [bigSep_W0, bigSep_W0]
  rw [Φ_before m c, Φ_after m c]
  show iprop(Φ0 m c ∗ (dat0 m c).owesAt () (t0_0 : Fin cfg0.N).castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ wpK c (cc0_body (Memref.whole cc0_stg0_0) (Memref.isWhole_whole
    _) (Memref.whole cc0_stg1_0) (Memref.isWhole_whole _) (Memref.whole cc0_stg2_0) (Memref.isWhole_whole _) (Memref.whole cc0_stg3_0)
    (Memref.isWhole_whole _) (Memref.whole cc0_stg4_0) (Memref.isWhole_whole _) (Memref.whole cc0_stg5_0) (Memref.isWhole_whole _) (Memref.whole
    cc0_scratch0) (Memref.isWhole_whole _) (Memref.whole cc0_scratch1) (Memref.isWhole_whole _) cc0_scratch2 cc0_scratch3 cc0_scratch4 cc0_scratch5)
      (fun _ => iprop(Φ1 c ∗ (dat0 m c).owesAt () (t0_0 : Fin cfg0.N).succ
      ∗ owns (c : Thread nD τ) (Memref.whole cc0_stg0_0) fullShare (iblk m c 0 t0_0)
      ∗ owns (c : Thread nD τ) (Memref.whole cc0_stg1_0) fullShare (iblk m c 1 t0_0)
      ∗ owns (c : Thread nD τ) (Memref.whole cc0_stg2_0) fullShare (iblk m c 2 t0_0)
      ∗ owns (c : Thread nD τ) (Memref.whole cc0_stg3_0) fullShare (iblk m c 3 t0_0)
      ∗ owns (c : Thread nD τ) (Memref.whole cc0_stg4_0) fullShare (iblk m c 4 t0_0)
      ∗ owns (c : Thread nD τ) (Memref.whole cc0_stg5_0) fullShare (outV (insOf m) c)))
  simp only [before_0, before_1, before_2, before_3, before_4]
  simp only [owns_whole_eq]
  unfold Φ0 Φ1
  iintro ⟨⟨Hop, Hscr, Hreg⟩, HO, ⟨%d0, %f0, %e0, H0⟩, ⟨%d1, %f1, %e1, H1⟩, ⟨%d2, %f2, %e2, H2⟩, ⟨%d3, %f3, %e3, H3⟩, ⟨%d4, %f4, %e4, H4⟩,
    ⟨%d5, %f5, %e5, H5⟩⟩
  subst e0 e1 e2 e3 e4
  ihave HO' := (owes_out c (dat0 m c) _ (owed 0 c) (owed_before m c)) $$ HO
  iapply (body_closed c (insOf m))
  unfold insPts owesN xPts wqPts woPts kPts vPts
  rw [owed_8]
  isplitl [Hop Hscr HO' H0 H1 H2 H3 H4 H5]
  · isplitl [Hop]; · iexact Hop
    isplitl [Hscr]; · iexact Hscr
    isplitl [HO']; · iexact HO'
    isplitl [H0 H1 H2 H3 H4]
    · isplitl [H0]; · iexact H0
      isplitl [H1]; · iexact H1
      isplitl [H2]; · iexact H2
      isplitl [H3]; · iexact H3
      iexact H4
    iexists f5; iexact H5
  iintro ⟨Hz, Hzs, Hscr, HO, ⟨H0, H1, H2, H3, H4⟩, H5⟩
  isplitl [Hz Hzs Hscr Hreg]
  · isplitl [Hz]; · iexact Hz
    isplitl [Hzs]; · iexact Hzs
    isplitl [Hscr]; · iexact Hscr
    iexact Hreg
  isplitl [HO]
  · iapply (owes_in c (dat0 m c) _ 0 (owed_after m c) rfl); iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; · ipureintro; rfl
  iexact H5

/-! ## The buffers around the region -/

/-- A device's buffers at launch, where the region is entered, where it is left, and at the end. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) :=
  Function.update (V₁ m c) (Proc.devRef .tc main_v4) ((dat0 m c).arrAt 5 cfg0.N)
def V₃ (c : Dev nD) : Valuation τ sig (Elt F) := StableHlo.after hostOps1 (V₂ m c)

theorem V₁_eq (b : Ref sig .tc) : V₁ m c (Proc.devRef .tc b) = V m c b := rfl
theorem V₂_v4 : V₂ m c (Proc.devRef .tc main_v4) = (dat0 m c).arrAt 5 cfg0.N := Function.update_self ..
theorem V₂_ne (b : DevRef τ sig) (h : b ≠ Proc.devRef .tc main_v4) : V₂ m c b = V₁ m c b := Function.update_of_ne h ..

/-- The output window's one block is the whole array: it ends holding what the body left. -/
theorem arr_out : (dat0 m c).arrAt 5 cfg0.N = outV (insOf m) c := by
  have hz : (fun a => (win0_5.index (0 : Fin 1)) a * main_v4.ty.shape.size a) = fun _ => 0 :=
    funext fun a => by fin_cases a <;> decide
  have hr := fun f => Memref.read_access_unit_zero (Elt F) main_v4 hz (fun a => by fin_cases a <;> decide) f
  have h : (win0_5.blk (0 : Fin 1)).view.read (Elt F) ((dat0 m c).arrAt 5 cfg0.N) = outV (insOf m) c := by
    rw [show cfg0.N = ((0 : Fin 1) : Fin cfg0.N).val + 1 from rfl, (dat0 m c).arrAt_succ (5 : Fin 6) (0 : Fin 1)]
    rw [show (cfg0.win (5 : Fin 6)).flush (0 : Fin 1) = true from by decide, if_pos rfl]
    exact View.read_write_univ _ _
  rw [hr] at h
  exact h

/-! ## The region as a step of the program -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

abbrev bufs : Finset (DevRef τ sig) := Pipeline.ucRefs τ sig
abbrev arrs : Finset (DevRef τ sig) := Pipeline.arrRefs (τ := τ) spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_lv (c : Dev nD) (g : GSem nD τ sig) (u : Unit) (h : 0 < owed 0 c g u) : u ∈ L g ∧ 0 < lv g u := by
  obtain ⟨p, hp, rfl⟩ := oSum_pos h
  unfold todo at hp
  rw [List.drop_zero] at hp
  simp only [List.mem_cons, List.mem_nil_iff, or_false] at hp
  rcases hp with rfl | rfl | rfl | rfl | rfl | rfl | rfl | rfl <;>
    exact ⟨by rw [L_tc]; exact Finset.mem_singleton_self _, by first | rw [lv_bar]; decide | rw [lv_r]; decide⟩

theorem cut (c : Dev nD) (t : Fin (cfg0.N + 1)) (g : GSem nD τ sig) (u : Unit) (h : 0 < (dat0 m c).owed t g u) : u ∈ L g ∧ (0 : ℕ) < lv g u := by
  have e : (dat0 m c).owed t = if t.val = 0 then owed 0 c else 0 := rfl
  rw [e] at h
  split at h
  · exact owed_lv c g u h
  · exact absurd h (Nat.lt_irrefl 0)

theorem arr_in (w : Fin cfg0.W) : (dat0 m c).arrAt w 0 = V₁ m c (Proc.devRef .tc (Pipeline.arrRef spec0 w)) := rfl

theorem arr_end (w : Fin cfg0.W) : (dat0 m c).arrAt w cfg0.N = V₂ m c (Proc.devRef .tc (Pipeline.arrRef spec0 w)) := by
  revert w
  have hne (b : Ref sig .tc) (h : b ≠ main_v4) : V₂ m c (Proc.devRef .tc b) = V m c b :=
    V₂_ne m c _ (StableHlo.devRef_ne_of_ne h)
  intro (w : Fin 6)
  match w with
  | ⟨0, _⟩ => exact ((dat0 m c).arrAt_in 0 rfl _).trans (hne main_v1 (by decide)).symm
  | ⟨1, _⟩ => exact ((dat0 m c).arrAt_in 1 rfl _).trans (hne main_arg1 (by decide)).symm
  | ⟨2, _⟩ => exact ((dat0 m c).arrAt_in 2 rfl _).trans (hne main_arg4 (by decide)).symm
  | ⟨3, _⟩ => exact ((dat0 m c).arrAt_in 3 rfl _).trans (hne main_v2 (by decide)).symm
  | ⟨4, _⟩ => exact ((dat0 m c).arrAt_in 4 rfl _).trans (hne main_v3 (by decide)).symm
  | ⟨5, _⟩ => exact (V₂_v4 m c).symm

theorem enter : iprop(Pipeline.scopedRest spec0 c ∗ (∃ r, prngReg c r) ∗ StableHlo.held (c : Thread nD τ) ∅ (V₁ m c) ∗ opened (insOf m) c)
    ⊢ (dat0 m c).Φ 0 := by
  rw [Φ_first, rest_eq]
  unfold Φ0
  iintro ⟨Hs, Hp, -, Ho⟩
  isplitl [Ho]; · iexact Ho
  isplitl [Hs] <;> iassumption

theorem leave : (dat0 m c).Φ (Fin.last cfg0.N) ⊢ iprop(Pipeline.scopedRest spec0 c ∗ (∃ r, prngReg c r)
    ∗ StableHlo.held (c : Thread nD τ) ∅ (V₂ m c) ∗ Pipeline.ownSems0 osem c ∗ semVal (barCell c) 0) := by
  rw [Φ_last, rest_eq, own_eq]
  unfold Φ1
  iintro ⟨Hz, Hzs, Hs, Hp⟩
  isplitl [Hs]; · iexact Hs
  isplitl [Hp]; · iexact Hp
  isplitr
  · rw [show (StableHlo.held (c : Thread nD τ) ∅ (V₂ m c) : sProp 𝕄) = BI.emp from BI.bigSep_empty]; iempintro
  isplitl [Hzs] <;> iassumption

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (bufs \ arrs) (Finset.empty_subset _) kit rfl (fun c => (obligation m c).loose)
    (fun _ => 0) (owed 0) (fun c => (owed_first m c).trans (zero_add _).symm) (fun c => owed_last m c) (fun _ => rfl)
    (fun c w => by unfold Dat.share; split <;> rfl)
    (V₁ m) (V₂ m) (fun c b hb => V₂_ne m c b fun e => (Finset.mem_sdiff.mp (Finset.mem_sdiff.mp hb).1).2 (e ▸ by decide))
    (keep (insOf m)) (fun c => semVal (barCell c) 0) (opened (insOf m)) (fun c => semVal (barCell c) 0)
    (open_all (insOf m)) (enter m) (leave m)
    (fun c => by iintro H; imodintro; iexact H)
    (fun _ => 0)
    ⟨fun c w s => by rw [L_tc]; exact Finset.mem_singleton_self _,
      fun c w s => Nat.le_of_eq ((by decide : ∀ (w : Fin 6) (s : Fin (cfg0.win w).nbuf), lv (((0 : Dev nD) : Thread nD τ), .dma ((cfg0.win w).sem s)) () = 0) w s),
      fun c t g u h => cut m c t g u h⟩
    (fun _ => iprop(emp))
    (fun c w => arr_in m c w) (fun c w => arr_end m c w)

end Cert.KernelIdealProof

end
-- ==== Proof.Run.lean ====
/-
  The whole program on its four devices: it runs from any memory, its arguments end as they began, every counter ends at
  zero, and each device's result is the reshaped output of the body.
-/
module

public import proofs.«01_k».proof.Proof.Region

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg) (c : Dev nD)

/-! ## The three steps of the program -/

/-- What rides along before the region, and after it. -/
def R (c : Dev nD) : sProp 𝕄 := iprop(keep (insOf m) c ∗ (∃ r, prngReg c r) ∗ ∃ W, owes (c : Thread nD τ) (owed 0 c) W)
def R' (c : Dev nD) : sProp 𝕄 := iprop(semVal (barCell c) 0 ∗ ∃ W, owes (c : Thread nD τ) (0 : CellTallies nD τ sig Unit) W)

theorem sub0 : ∀ op ∈ (hostOps0 : List (HloOp τ sig (Elt F))), op.bufs ⊆ bufs := fun op h =>
  Pipeline.sub_ucRefs op ((List.forall_iff_forall_mem.mp hostOps0_sub) op h)
theorem sub1 : ∀ op ∈ (hostOps1 : List (HloOp τ sig (Elt F))), op.bufs ⊆ bufs := fun op h =>
  Pipeline.sub_ucRefs op ((List.forall_iff_forall_mem.mp hostOps1_sub) op h)

def seg0 : ℍ := Pipeline.HostSeg.ofOps _ _ _ _ _ bufs hostOps0 sub0 (List.forall_iff_forall_mem.mp hostOps0_fresh) (V₀ m) (R m)
def seg1 : ℍ := Pipeline.HostSeg.ofOps _ _ _ _ _ bufs hostOps1 sub1 (List.forall_iff_forall_mem.mp hostOps1_fresh) (V₂ m) R'

def segs : List (Pipeline.Seg (pcfgs (F := F)) adm (pdats m) () defs₀ 𝒱₀ L lv) := [.host (seg0 m), .region (reg m), .host (seg1 m)]

theorem main_eq : main (F := F) c = Pipeline.Seg.run (segs m) :=
  main_segs adm (pdats m) () 𝒱₀ L lv (seg0 m) (seg1 m) (reg m) rfl rfl c

theorem arrs_sub : (arrs : Finset (DevRef τ sig)) ⊆ bufs := Pipeline.arrRefs_sub_ucRefs spec0 launch0.win.arr_unscoped

theorem reg_pre : iprop(StableHlo.held (c : Thread nD τ) bufs (V₁ m c) ∗ R m c) ⊢ (reg m).pre c := by
  show _ ⊢ iprop(StableHlo.held (c : Thread nD τ) arrs (V₁ m c) ∗ (∃ r, prngReg c r)
    ∗ (StableHlo.held (c : Thread nD τ) (bufs \ arrs) (V₁ m c) ∗ emp) ∗ keep (insOf m) c ∗ ∃ Wd, owes (c : Thread nD τ) (0 + owed 0 c) Wd)
  rw [StableHlo.held_sub_split (c : Thread nD τ) arrs_sub (V₁ m c), zero_add]
  unfold R
  iintro ⟨⟨Ha, Hb⟩, Hk, Hp, HO⟩
  isplitl [Ha]; · iexact Ha
  isplitl [Hp]; · iexact Hp
  isplitl [Hb]
  · isplitl [Hb]; · iexact Hb
    iempintro
  isplitl [Hk] <;> iassumption

theorem reg_post : (reg m).post c ⊢ iprop(StableHlo.held (c : Thread nD τ) bufs (V₂ m c) ∗ R' c) := by
  show iprop(StableHlo.held (c : Thread nD τ) arrs (V₂ m c) ∗ (∃ r, prngReg c r)
    ∗ (StableHlo.held (c : Thread nD τ) (bufs \ arrs) (V₂ m c) ∗ emp) ∗ semVal (barCell c) 0
    ∗ ∃ Wd, owes (c : Thread nD τ) (0 : CellTallies nD τ sig Unit) Wd) ⊢ _
  rw [StableHlo.held_sub_split (c : Thread nD τ) arrs_sub (V₂ m c)]
  unfold R'
  iintro ⟨Ha, -, ⟨Hb, -⟩, Hz, HO⟩
  isplitl [Ha Hb]; · isplitl [Ha] <;> iassumption
  isplitl [Hz] <;> iassumption

/-! ## The launch -/

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells hopCells duties)

abbrev fuel : Dev nD → sProp 𝕄 := parked (BI.own (ER (launchOf barCells hopCells duties)))

theorem bufs_held (W : Valuation τ sig (Elt F)) :
    (unscopedBufs c (fun b => W (Proc.devRef .tc b)) : sProp 𝕄) = StableHlo.held (c : Thread nD τ) bufs W := by
  unfold unscopedBufs StableHlo.held bufs Pipeline.ucRefs StableHlo.tcRefs
  rw [Finset.filter_map, BI.bigSep_map]
  rfl

theorem free_sems : ∀ sm : SemLoc sig, sm.isScoped .tc = false → sm = .reg barS := by decide

theorem sems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ semVal (barCell c) 0)

theorem init :
    iprop((bigSep Finset.univ fun c : Dev nD => iprop(unscopedBufs c (fun b => m ((c : Thread nD τ).loc b)) ∗ unscopedSems0 c
          ∗ owes (c : Thread nD τ) (owed 0 c) ∅ ∗ Pipeline.launchCred (owed 0) c ∗ prngReg c (ρ c) ∗ fuel c)) ∗ levAts L lv)
      ⊢ (|={Set.univ}=> bigSep Finset.univ (T₀ m) : sProp 𝕄) := by
  have h1 (c : Dev nD) : iprop(StableHlo.held (c : Thread nD τ) bufs (V₀ m c) ∗ keep (insOf m) c ∗ owes (c : Thread nD τ) (owed 0 c) ∅ ∗ prngReg c (ρ c))
      ⊢ T₀ m c := by
    unfold T₀ R
    iintro ⟨Hh, Hk, HO, Hp⟩
    isplitl [Hh]; · iexact Hh
    isplitl [Hk]; · iexact Hk
    isplitl [Hp]; · iexists (ρ c); iexact Hp
    iexists ∅; iexact HO
  have hall : (bigSep Finset.univ fun c : Dev nD => iprop(StableHlo.held (c : Thread nD τ) bufs (V₀ m c) ∗ keep (insOf m) c
      ∗ owes (c : Thread nD τ) (owed 0 c) ∅ ∗ prngReg c (ρ c))) ⊢ bigSep Finset.univ (T₀ m) := bigSep_mono fun c _ => h1 c
  rw [bigSep_congr (s := Finset.univ) (Ψ := fun c : Dev nD => iprop(StableHlo.held (c : Thread nD τ) bufs (V₀ m c) ∗ semVal (barCell c) 0
    ∗ owes (c : Thread nD τ) (owed 0 c) ∅ ∗ Pipeline.launchCred (owed 0) c ∗ prngReg c (ρ c) ∗ fuel c)) fun c _ => by
      rw [sems_eq, ← bufs_held c (V₀ m c)]; rfl]
  simp only [split2, parked_all] at hall ⊢
  iintro ⟨⟨Hh, Hv, HO, Hc, Hp, Hu⟩, -⟩
  imod (fund_all (insOf m)) $$ [Hv Hu Hc] with Hk
  · isplitl [Hv]; · iexact Hv
    isplitl [Hu] <;> iassumption
  imodintro
  iapply hall
  isplitl [Hh]; · iexact Hh
  isplitl [Hk]; · iexact Hk
  isplitl [HO] <;> iassumption

/-! ## The run -/

/-- An argument ends as it began. -/
theorem V₃_arg (b : Ref sig .tc) (h5 : b ≠ main_v5) (h4 : b ≠ main_v4) (h : V m c b = m ((c : Thread nD τ).loc b)) :
    V₃ m c (Proc.devRef .tc b) = m ((c : Thread nD τ).loc b) := by
  unfold V₃
  rw [StableHlo.after_of_forall_not_mem (b := Proc.devRef .tc b) _ _ (List.forall_iff_forall_mem.mp (by
    simp only [hostOps1, List.Forall, StableHlo.reshape_writes, Finset.mem_singleton]
    exact StableHlo.devRef_ne_of_ne h5)), V₂_ne m c _ (StableHlo.devRef_ne_of_ne h4)]
  exact h

theorem bufs_list (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v5) ↦{fullShare} W (Proc.devRef .tc main_v5))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3)) ∗ (((c : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v5, Proc.devRef .tc main_v1, Proc.devRef .tc main_v2, Proc.devRef .tc main_v3,
    Proc.devRef .tc main_v4] (by decide) (by decide)]
  rfl

set_option backward.isDefEq.respectTransparency.types false in
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v5) = V₃ m c (Proc.devRef .tc main_v5)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed 0) (hL := L_of_ne) (G := fuel) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R'
      iintro ⟨Hh, Hz, HO⟩
      isplitr [HO]
      · isplitl [Hh] <;> iassumption
      · iexact HO)
    (hinit := init m ρ)
    (QY := fun c s => ((s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_arg3) = V₃ m c (Proc.devRef .tc main_arg3)
        ∧ s.mem ((c : Thread nD τ).loc main_arg4) = V₃ m c (Proc.devRef .tc main_arg4))
        ∧ s.mem ((c : Thread nD τ).loc main_v5) = V₃ m c (Proc.devRef .tc main_v5)) ∧ s.sem (barCell c) = 0)
    (hfin := fun c s' => by
      dsimp only [Tₙ]; rw [bufs_list]
      iintro ⟨⟨⟨H0, H1, H2, H3, H4, H5, -⟩, Hz⟩, HSI⟩
      icombine HSI H0 gives %h0
      icombine HSI H1 gives %h1
      icombine HSI H2 gives %h2
      icombine HSI H3 gives %h3
      icombine HSI H4 gives %h4
      icombine HSI H5 gives %h5
      icombine HSI Hz gives %hz
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h5⟩, by simpa using hz⟩
      iexact HSI)
    (hQ := fun s h hs => ⟨fun c => by
        obtain ⟨⟨⟨h0, h1, h2, h3, h4⟩, h5⟩, -⟩ := h c
        rw [V₃_arg m c main_arg0 (by decide) (by decide) (V_main_arg0 m c)] at h0
        rw [V₃_arg m c main_arg1 (by decide) (by decide) (V_main_arg1 m c)] at h1
        rw [V₃_arg m c main_arg2 (by decide) (by decide) (V_main_arg2 m c)] at h2
        rw [V₃_arg m c main_arg3 (by decide) (by decide) (V_main_arg3 m c)] at h3
        rw [V₃_arg m c main_arg4 (by decide) (by decide) (V_main_arg4 m c)] at h4
        exact ⟨⟨h0, h1, h2, h3, h4⟩, h5⟩,
      sem_eq_zero hs fun c sm hsm => by
        obtain rfl := free_sems sm hsm
        exact (h c).2⟩)

end Cert.KernelIdealProof

end
-- ==== Proof.Soft.lean ====
/-
The mathematics of a softmax taken part by part, over the extended reals with the exponential that is 0 at −∞ and the
junk `+∞ − +∞ = −∞`. A part's three numbers are its maximum, the sum of the exponentials below the maximum, and the sum
of the values so weighted. Two disjoint parts merge exactly, whatever the scores and the values are: no finiteness is
needed.
-/
module

public import Idealize.ShloMosaic.PureOps.Ideal.Laws

@[expose] public section

noncomputable section

namespace Cert.Softmax

open Idealize.ShloMosaic
open scoped BigOperators

/-- The exponential of a difference `a − m` with `a ≤ m` is a nonnegative number below `+∞`. -/
theorem exp_sub_nonneg (x : EReal) : 0 ≤ Ideal.exp x := by
  induction x with
  | bot => simp
  | top => simp
  | coe r => rw [Ideal.exp_coe]; exact_mod_cast (Real.exp_pos r).le

theorem exp_sub_ne_top {a m : EReal} (h : a ≤ m) : Ideal.exp (a - m) ≠ ⊤ := by
  induction m with
  | bot => obtain rfl := le_bot_iff.mp h; simp
  | top => rw [EReal.sub_top]; simp
  | coe M =>
    induction a with
    | bot => simp
    | top => exact absurd h (by simp)
    | coe r => rw [← EReal.coe_sub, Ideal.exp_coe]; exact EReal.coe_ne_top _

/-- The exponential below one bound, brought to a higher bound, is the exponential below that. -/
theorem exp_chain {a m M : EReal} (h : a ≤ m) (h' : m ≤ M) :
    Ideal.exp (a - m) * Ideal.exp (m - M) = Ideal.exp (a - M) := by
  induction m with
  | bot => obtain rfl := le_bot_iff.mp h; simp
  | top =>
    obtain rfl := top_le_iff.mp h'
    simp [EReal.sub_top]
  | coe m =>
    induction M with
    | bot => exact absurd h' (by simp)
    | top => simp [EReal.sub_top]
    | coe M =>
      induction a with
      | bot => simp
      | top => exact absurd h (by simp)
      | coe a =>
        rw [← EReal.coe_sub, ← EReal.coe_sub, ← EReal.coe_sub, Ideal.exp_coe, Ideal.exp_coe, Ideal.exp_coe,
          ← EReal.coe_mul, ← Real.exp_add]
        congr 2; ring

variable {J : Type} [DecidableEq J] (s v : J → EReal)

/-- The values of a part, weighted by the exponentials of the scores below the part's maximum. -/
def acc (A : Finset J) : EReal := ∑ j ∈ A, v j * Ideal.exp (s j - A.sup s)

/-- A finite sum times a nonnegative number below `+∞`. -/
theorem sum_mul_of_nonneg {A : Finset J} {f : J → EReal} {a : EReal} (h0 : 0 ≤ a) (ht : a ≠ ⊤) :
    (∑ j ∈ A, f j) * a = ∑ j ∈ A, f j * a := by
  induction A using Finset.induction with
  | empty => simp
  | insert j A hj ih => rw [Finset.sum_insert hj, Finset.sum_insert hj, EReal.right_distrib_of_nonneg_of_ne_top h0 ht, ih]

/-- A part's weighted sum brought to a higher bound. -/
theorem acc_rescale {A : Finset J} {M : EReal} (h : A.sup s ≤ M) :
    acc s v A * Ideal.exp (A.sup s - M) = ∑ j ∈ A, v j * Ideal.exp (s j - M) := by
  unfold acc
  rw [sum_mul_of_nonneg (exp_sub_nonneg _) (exp_sub_ne_top h)]
  exact Finset.sum_congr rfl fun j hj => by rw [mul_assoc, exp_chain (Finset.le_sup hj) h]

/-- **Two disjoint parts merge.** -/
theorem acc_union {A B : Finset J} (hd : Disjoint A B) :
    acc s v (A ∪ B) = acc s v A * Ideal.exp (A.sup s - max (A.sup s) (B.sup s))
      + acc s v B * Ideal.exp (B.sup s - max (A.sup s) (B.sup s)) := by
  rw [acc_rescale s v (le_max_left _ _), acc_rescale s v (le_max_right _ _), acc, Finset.sum_union hd, Finset.sup_union]

theorem acc_empty : acc s v ∅ = 0 := by simp [acc]

/-- A part named by an injection of its places. -/
theorem acc_map {K : Type} [Fintype K] (f : K ↪ J) :
    acc s v (Finset.univ.map f) = ∑ k : K, v (f k) * Ideal.exp (s (f k) - Finset.univ.sup (fun k => s (f k))) := by
  rw [acc, Finset.sum_map, Finset.sup_map]; rfl

theorem sup_map {K : Type} [Fintype K] (f : K ↪ J) :
    (Finset.univ.map f).sup s = Finset.univ.sup (fun k => s (f k)) := by rw [Finset.sup_map]; rfl

/-- A fold of `max` from −∞ is the supremum. -/
theorem fold_max_eq_sup {K : Type} (A : Finset K) (f : K → EReal) : A.fold max ⊥ f = A.sup f := rfl

/-- The pattern of −∞. -/
theorem ofBits_neg_inf : Ideal.ofBits .f32 0xFF800000#32 = ⊥ := by simp [Ideal.ofBits, Ideal.ieee]

end Cert.Softmax

end
-- ==== Proof.Spec.lean ====
/-
Attention as one function of its five arrays, index by index: queries, scaled scores, the softmax-weighted values of each
head, and the output product. Both programs are proved to compute it. Then the sums of products that the programs' matrix
products are, over one contracted coordinate.
-/
module

public import proofs.«01_k».proof.Proof.Soft
public import Idealize.ShloMosaic.Lib.IdealHost
public import Idealize.ShloMosaic.Lib.KernelVsHost

@[expose] public section

noncomputable section

namespace Cert.Softmax

open Idealize.ShloMosaic Idealize.ShloMosaic.ValueIdx
open scoped BigOperators

/-- The column of head `h`, lane `d`, where the heads lie side by side. -/
abbrev col (h : Fin 8) (d : Fin 64) : Fin 512 := ⟨64 * h.val + d.val, by omega⟩
/-- The head and the lane of a column. -/
abbrev colHead (c : Fin 512) : Fin 8 := ⟨c.val / 64, by omega⟩
abbrev colLane (c : Fin 512) : Fin 64 := ⟨c.val % 64, by omega⟩

/-- The arrays: activations, query weights, keys, values, output weights. -/
structure Arrays where
  x : (⟨3, ![2, 256, 768]⟩ : Shape).Idx → EReal
  wq : (⟨2, ![768, 512]⟩ : Shape).Idx → EReal
  k : (⟨4, ![2, 2048, 8, 64]⟩ : Shape).Idx → EReal
  v : (⟨4, ![2, 2048, 8, 64]⟩ : Shape).Idx → EReal
  wo : (⟨2, ![512, 768]⟩ : Shape).Idx → EReal

variable (A : Arrays)

def query (b : Fin 2) (i : Fin 256) (h : Fin 8) (d : Fin 64) : EReal :=
  ∑ t : Fin 768, A.x (ix3 b i t) * A.wq (ix2 t (col h d))

def score (b : Fin 2) (h : Fin 8) (i : Fin 256) (j : Fin 2048) : EReal :=
  (∑ d : Fin 64, query A b i h d * A.k (ix4 b j h d)) * Ideal.ofBits .f32 0x3E000000#32

/-- A head's values, at one lane. -/
abbrev lane (b : Fin 2) (h : Fin 8) (d : Fin 64) (j : Fin 2048) : EReal := A.v (ix4 b j h d)

def att (b : Fin 2) (i : Fin 256) (h : Fin 8) (d : Fin 64) : EReal :=
  Ideal.div (acc (score A b h i) (lane A b h d) Finset.univ) (acc (score A b h i) (fun _ => 1) Finset.univ)

def result (b : Fin 2) (i : Fin 256) (n : Fin 768) : EReal :=
  ∑ c : Fin 512, att A b i (colHead c) (colLane c) * A.wo (ix2 c n)

/-! ## Matrix products with one contracted coordinate -/

section Dot
variable {sl sr so : Shape} (D : DotDims sl sr so) (n : ℕ) (hr : D.contr.rank = 1) (hs : D.contr.size ⟨0, lt_of_lt_of_eq Nat.one_pos hr.symm⟩ = n)

include hs in
theorem dot_sum (L : sl.Idx → EReal) (R : sr.Idx → EReal) (j : so.Idx) (l : Fin n → sl.Idx) (r : Fin n → sr.Idx)
    (hl : ∀ (k : D.contr.Idx) (i : Fin n), (k ⟨0, lt_of_lt_of_eq Nat.one_pos hr.symm⟩).val = i.val → D.lhsIdx j k = l i)
    (hr' : ∀ (k : D.contr.Idx) (i : Fin n), (k ⟨0, lt_of_lt_of_eq Nat.one_pos hr.symm⟩).val = i.val → D.rhsIdx j k = r i) :
    ∑ k : D.contr.Idx, L (D.lhsIdx j k) * R (D.rhsIdx j k) = ∑ i : Fin n, L (l i) * R (r i) := by
  rw [← Equiv.sum_comp (contrEquiv1 D n hr hs).symm]
  refine Finset.sum_congr rfl fun i _ => ?_
  have hk := contrEquiv1_symm_val D n hr hs i
  rw [hl _ i hk, hr' _ i hk]

include hs in
/-- The host's product at an index. -/
theorem hostDot_apply (L : FVec Ideal sl .f32) (R : FVec Ideal sr .f32) (j : so.Idx) (l : Fin n → sl.Idx) (r : Fin n → sr.Idx)
    (hl : ∀ (k : D.contr.Idx) (i : Fin n), (k ⟨0, lt_of_lt_of_eq Nat.one_pos hr.symm⟩).val = i.val → D.lhsIdx j k = l i)
    (hr' : ∀ (k : D.contr.Idx) (i : Fin n), (k ⟨0, lt_of_lt_of_eq Nat.one_pos hr.symm⟩).val = i.val → D.rhsIdx j k = r i) :
    Host.dotGeneral D none L R j = ∑ i : Fin n, L (l i) * R (r i) := by
  refine Eq.trans ?_ (dot_sum D n hr hs L R j l r hl hr')
  simp only [Host.dotGeneral]
  exact Ideal.dotGeneral_apply D none _ L R j

include hs in
/-- A kernel's product into zero at an index. -/
theorem kernDot_apply (L : FVec Ideal sl .f32) (R : FVec Ideal sr .f32) (j : so.Idx) (l : Fin n → sl.Idx) (r : Fin n → sr.Idx)
    (hl : ∀ (k : D.contr.Idx) (i : Fin n), (k ⟨0, lt_of_lt_of_eq Nat.one_pos hr.symm⟩).val = i.val → D.lhsIdx j k = l i)
    (hr' : ∀ (k : D.contr.Idx) (i : Fin n), (k ⟨0, lt_of_lt_of_eq Nat.one_pos hr.symm⟩).val = i.val → D.rhsIdx j k = r i) :
    matmul D none L R (constant so .f32 0x00000000#32) j = ∑ i : Fin n, L (l i) * R (r i) := by
  rw [matmul_zero_eq_dotGeneral]
  exact hostDot_apply D n hr hs L R j l r hl hr'

end Dot

end Cert.Softmax

end
-- ==== Proof.KerVal.lean ====
/-
What each device of the kernel stores is the attention of the whole arrays: a device's partial softmax is that of its own
shard of the keys, every merge joins one more shard, and after three hops all four are in.
-/
module

public import proofs.«01_k».proof.Proof.Vals
public import proofs.«01_k».proof.Proof.Spec

@[expose] public section

noncomputable section

namespace Cert.KernelIdealProof

open Cert.KernelIdeal Cert.KernelIdeal.Gen Cert.Softmax
open Idealize.ShloMosaic Idealize.ShloMosaic.TcCoe Idealize.ShloMosaic.ValueIdx Idealize.SL.Sem
open scoped BigOperators

/-- The batch a ring works on. -/
abbrev bat (e : Bool) : Fin 2 := match e with | true => 0 | false => 1

/-- The row of a query, and of a device's key, in the stacks of both batches. -/
abbrev qRow (b : Fin 2) (i : Fin 256) : Fin 512 := ⟨256 * b.val + i.val, by omega⟩
abbrev kRow (b : Fin 2) (j : Fin 512) : Fin 1024 := ⟨512 * b.val + j.val, by omega⟩

theorem shard_lt (c : Dev nD) (j : Fin 512) : 512 * c.val + j.val < 2048 := by
  have : c.val < 4 := c.isLt
  omega

/-- The keys of device `c`. -/
def shard (c : Dev nD) : Fin 512 ↪ Fin 2048 := ⟨fun j => ⟨512 * c.val + j.val, shard_lt c j⟩, fun a b h => Fin.ext (by
  have := congrArg Fin.val h; simp only at this; omega)⟩
/-- The same as a set. -/
def keys (c : Dev nD) : Finset (Fin 2048) := Finset.univ.map (shard c)

theorem mem_keys (c : Dev nD) (a : Fin 2048) : a ∈ keys c ↔ a.val / 512 = c.val := by
  constructor
  · intro h
    obtain ⟨j, -, rfl⟩ := Finset.mem_map.mp h
    show (512 * c.val + j.val) / 512 = c.val
    omega
  · intro h
    exact Finset.mem_map.mpr ⟨⟨a.val % 512, Nat.mod_lt _ (by decide)⟩, Finset.mem_univ _,
      Fin.ext (by show 512 * c.val + a.val % 512 = a.val; omega)⟩

/-- The devices read the whole arrays `A`: the replicated ones whole, of the keys and values their shard. -/
structure Reads (I : Ins Ideal) (A : Arrays) : Prop where
  x : ∀ c b i t, I.x c (ix2 (qRow b i) t) = A.x (ix3 b i t)
  wq : ∀ c, I.wq c = A.wq
  wo : ∀ c, I.wo c = A.wo
  k : ∀ c b j h d, I.k c (ix2 (kRow b j) (col h d)) = A.k (ix4 b (shard c j) h d)
  v : ∀ c b j h d, I.v c (ix2 (kRow b j) (col h d)) = A.v (ix4 b (shard c j) h d)

variable {I : Ins Ideal} {A : Arrays} (R : Reads I A)

include R

/-! ## A device's own part -/

theorem qMat_apply (c : Dev nD) (b : Fin 2) (i : Fin 256) (h : Fin 8) (d : Fin 64) :
    qMat I c (ix2 (qRow b i) (col h d)) = query A b i h d := by
  show matmul dot_S512x768_S768x512_S512x512_1_0_0_1_n_n none
    (shapeCast S512x768 (I.x c) shapeCasts_S512x768_S512x768 : FVec Ideal S512x768 .f32)
    (shapeCast S768x512 (I.wq c) shapeCasts_S768x512_S768x512 : FVec Ideal S768x512 .f32) (constant S512x512 .f32 0x00000000#32) _ = _
  rw [shapeCast_self, shapeCast_self]
  refine (kernDot_apply dot_S512x768_S768x512_S512x512_1_0_0_1_n_n 768 rfl rfl _ _ _ (fun t => ix2 (qRow b i) t) (fun t => ix2 t (col h d))
      (fun k i hk => funext fun a => Fin.ext (by fin_cases a <;> first | rfl | exact hk))
      (fun k i hk => funext fun a => Fin.ext (by fin_cases a <;> first | rfl | exact hk))).trans ?_
  exact Finset.sum_congr rfl fun t _ => by rw [R.x, R.wq]

theorem qBlk_apply (c : Dev nD) (e : Bool) (h : Fin 8) (i : Fin 256) (d : Fin 64) :
    qBlk I c e h (ix2 i d) = query A (bat e) i h d := by
  refine Eq.trans ?_ (qMat_apply R c (bat e) i h d)
  exact extractStridedSlice_apply _ _ _ _ _ fun a => by fin_cases a <;> cases e <;> rfl

theorem kBlk_apply (c : Dev nD) (e : Bool) (h : Fin 8) (j : Fin 512) (d : Fin 64) :
    kBlk I c e h (ix2 j d) = A.k (ix4 (bat e) (shard c j) h d) := by
  unfold kBlk
  rw [shapeCast_self, ← R.k]
  cases e <;> rfl
theorem vBlk_apply (c : Dev nD) (e : Bool) (h : Fin 8) (j : Fin 512) (d : Fin 64) :
    vBlk I c e h (ix2 j d) = lane A (bat e) h d (shard c j) := by
  unfold vBlk lane
  rw [shapeCast_self, ← R.v]
  cases e <;> rfl

theorem sT_apply (c : Dev nD) (e : Bool) (h : Fin 8) (j : Fin 512) (i : Fin 256) :
    sT I c e h (ix2 j i) = score A (bat e) h i (shard c j) := by
  refine congrArg₂ (· * ·) ?_ rfl
  refine (kernDot_apply dot_S512x64_S256x64_S512x256_1_1_0_0_n_n 64 rfl rfl _ _ _ (fun d => ix2 j d) (fun d => ix2 i d)
      (fun k i hk => funext fun a => Fin.ext (by fin_cases a <;> first | rfl | exact hk))
      (fun k i hk => funext fun a => Fin.ext (by fin_cases a <;> first | rfl | exact hk))).trans ?_
  exact Finset.sum_congr rfl fun d _ => by rw [kBlk_apply R, qBlk_apply R, mul_comm]

omit R in
/-- Narrowing and widening back changes nothing. -/
theorem ext_trunc {s : Shape} (x : FVec Ideal s .f32) :
    extf .f32 (truncf .bf16 x bitsLt_bf16_f32) bitsLt_bf16_f32 = x := rfl

omit R in
theorem mBB_apply (c : Dev nD) (e : Bool) (h : Fin 8) (j : S1x256.Idx) : mBB I c e h j = mV I c e h j := by
  rw [mBB]; generalize mV I c e h = x; rfl

omit R in
theorem lift_row (i : Fin 256) (j : Fin 512) : reduces_S512x256_S256.lift (ix1 i) j = ix2 j i := by
  funext a; apply Fin.ext; fin_cases a <;> rfl

omit R in
theorem row_apply {α : Type} (f : S256.Idx → α) (z : Fin 1) (i : Fin 256) : shapeCast S1x256 f shapeCasts_S256_S1x256 (ix2 z i) = f (ix1 i) :=
  shapeCast_apply _ _ _ _ (by
    rw [Shape.rowMajor_val_one, Shape.rowMajor_val_two]
    show i.val = z.val * 256 + i.val
    omega)

omit R in
theorem mV_eq (c : Dev nD) (e : Bool) (h : Fin 8) : mV I c e h = shapeCast S1x256
    (multiReduction .maximumf [0] S256 (sT I c e h) 0xFF800000#32 reduces_S512x256_S256 (.inl rfl) rfl) shapeCasts_S256_S1x256 := by
  rw [mV, mB, ext_trunc]

theorem mV_apply (c : Dev nD) (e : Bool) (h : Fin 8) (i : Fin 256) :
    mV I c e h (ix2 0 i) = (keys c).sup (score A (bat e) h i) := by
  rw [mV_eq, row_apply]
  refine (Ideal.multiReduction_maximumf_single (φ := .f32) (sT I c e h) _ reduces_S512x256_S256 _ _ (ix1 i)).trans ?_
  have h0 : FloatOps.ofBits (F := Ideal) .f32 0xFF800000#32 = (⊥ : EReal) := ofBits_neg_inf
  rw [h0, keys, sup_map]
  refine (fold_max_eq_sup _ _).trans (Finset.sup_congr rfl fun j _ => ?_)
  exact (congrArg (sT I c e h) (lift_row i j)).trans (sT_apply R c e h j i)

theorem pT_apply (c : Dev nD) (e : Bool) (h : Fin 8) (j : Fin 512) (i : Fin 256) :
    pT I c e h (ix2 j i) = Ideal.exp (score A (bat e) h i (shard c j) - (keys c).sup (score A (bat e) h i)) := by
  show Ideal.exp (sT I c e h (ix2 j i) - broadcastTo S512x256 (mV I c e h) broadcasts_S1x256_S512x256 (ix2 j i)) = _
  rw [sT_apply R, broadcastTo_apply _ _ _ (ix2 0 i) (fun a => by fin_cases a <;> rfl), mV_apply R]

theorem lV_apply (c : Dev nD) (e : Bool) (h : Fin 8) (i : Fin 256) :
    lV I c e h (ix2 0 i) = acc (score A (bat e) h i) (fun _ => 1) (keys c) := by
  rw [lV, row_apply]
  refine (Ideal.multiReduction_add_single (φ := .f32) (pT I c e h) _ reduces_S512x256_S256 _ _ (ix1 i)).trans ?_
  rw [acc, keys, Finset.sum_map]
  refine Finset.sum_congr rfl fun j _ => ?_
  rw [one_mul]
  exact (congrArg (pT I c e h) (lift_row i j)).trans (pT_apply R c e h j i)

theorem oV_apply (c : Dev nD) (e : Bool) (h : Fin 8) (d : Fin 64) (i : Fin 256) :
    oV I c e h (ix2 d i) = acc (score A (bat e) h i) (lane A (bat e) h d) (keys c) := by
  refine (kernDot_apply dot_S512x64_S512x256_S64x256_0_0_1_1_n_n 512 rfl rfl _ _ _ (fun j => ix2 j d) (fun j => ix2 j i)
      (fun k i hk => funext fun a => Fin.ext (by fin_cases a <;> first | rfl | exact hk))
      (fun k i hk => funext fun a => Fin.ext (by fin_cases a <;> first | rfl | exact hk))).trans ?_
  rw [acc, keys, Finset.sum_map]
  exact Finset.sum_congr rfl fun j _ => by rw [vBlk_apply R, pT_apply R]; rfl

/-! ## What arrives -/

omit R

theorem recv_apply (e : Bool) (k : ℕ) (c : Dev nD) (r : Fin 528) (i : Fin 256) :
    recv I e k c (ix2 r i) = packed I e (src e k c) (ix2 r i) := by
  show shapeCast S528x256 (slotV (packed I e (src e k c))) shapeCasts_S1x528x256_S528x256 (ix2 r i) = _
  refine (shapeCast_apply _ _ _ (ix3 0 r i) ?_).trans rfl
  rw [Shape.rowMajor_val_three, Shape.rowMajor_val_two]
  show (0 * 528 + r.val) * 256 + i.val = r.val * 256 + i.val
  omega

theorem oR_apply (e : Bool) (k : ℕ) (c : Dev nD) (h : Fin 8) (d : Fin 64) (i : Fin 256) :
    oR I e k c h (ix2 d i) = oV I (src e k c) e h (ix2 d i) := by
  have hr : 64 * h.val + d.val < 528 := by omega
  refine (extractStridedSlice_apply _ _ _ _ (ix2 ⟨64 * h.val + d.val, hr⟩ i) fun a => ?_).trans ?_
  · fin_cases a
    · rfl
    · show i.val = 0 + i.val; omega
  rw [recv_apply]
  have h0 : 64 * h.val + d.val < 512 := by omega
  refine (dif_pos h0).trans ?_
  have e1 : (⟨(64 * h.val + d.val) / 64, by omega⟩ : Fin 8) = h := Fin.ext (by show (64 * h.val + d.val) / 64 = h.val; omega)
  have e2 : (⟨(64 * h.val + d.val) % 64, by omega⟩ : Fin 64) = d := Fin.ext (by show (64 * h.val + d.val) % 64 = d.val; omega)
  show oB I (src e k c) e ⟨(64 * h.val + d.val) / 64, _⟩ (ix2 ⟨(64 * h.val + d.val) % 64, _⟩ i) = _
  rw [e1, e2]; rfl

theorem mR_apply (e : Bool) (k : ℕ) (c : Dev nD) (h : Fin 8) (i : Fin 256) :
    mR I e k c h (ix2 0 i) = mV I (src e k c) e h (ix2 0 i) := by
  have hr : 512 + h.val < 528 := by omega
  refine (extractStridedSlice_apply _ _ _ _ (ix2 ⟨512 + h.val, hr⟩ i) fun a => ?_).trans ?_
  · fin_cases a
    · rfl
    · show i.val = 0 + i.val; omega
  rw [recv_apply]
  have h0 : ¬ 512 + h.val < 512 := by omega
  have h1 : 512 + h.val < 520 := by omega
  refine ((dif_neg h0).trans (dif_pos h1)).trans ?_
  have e1 : (⟨512 + h.val - 512, by omega⟩ : Fin 8) = h := Fin.ext (by show 512 + h.val - 512 = h.val; omega)
  show mBB I (src e k c) e ⟨512 + h.val - 512, _⟩ (ix2 0 i) = _
  rw [e1, mBB_apply]

theorem lR_apply (e : Bool) (k : ℕ) (c : Dev nD) (h : Fin 8) (i : Fin 256) :
    lR I e k c h (ix2 0 i) = lV I (src e k c) e h (ix2 0 i) := by
  have hr : 520 + h.val < 528 := by omega
  refine (extractStridedSlice_apply _ _ _ _ (ix2 ⟨520 + h.val, hr⟩ i) fun a => ?_).trans ?_
  · fin_cases a
    · rfl
    · show i.val = 0 + i.val; omega
  rw [recv_apply]
  have h0 : ¬ 520 + h.val < 512 := by omega
  have h1 : ¬ 520 + h.val < 520 := by omega
  refine ((dif_neg h0).trans (dif_neg h1)).trans ?_
  have e1 : (⟨520 + h.val - 520, by omega⟩ : Fin 8) = h := Fin.ext (by show 520 + h.val - 520 = h.val; omega)
  show lB I (src e k c) e ⟨520 + h.val - 520, _⟩ (ix2 0 i) = _
  rw [e1]; rfl

/-! ## The merges -/

/-- The keys merged after `k` hops. -/
def merged (e : Bool) (c : Dev nD) : ℕ → Finset (Fin 2048)
  | 0 => keys c
  | k + 1 => merged e c k ∪ keys (src e (k + 1) c)

theorem mem_merged (e : Bool) (c : Dev nD) (k : ℕ) (a : Fin 2048) :
    a ∈ merged e c k ↔ ∃ l, l ≤ k ∧ a.val / 512 = (src e l c).val := by
  induction k with
  | zero =>
    rw [merged, mem_keys]
    exact ⟨fun h => ⟨0, le_rfl, h⟩, fun ⟨l, hl, h⟩ => by obtain rfl := Nat.le_zero.mp hl; exact h⟩
  | succ k ih =>
    rw [merged, Finset.mem_union, ih, mem_keys]
    constructor
    · rintro (⟨l, hl, h⟩ | h)
      · exact ⟨l, by omega, h⟩
      · exact ⟨k + 1, le_rfl, h⟩
    · rintro ⟨l, hl, h⟩
      rcases Nat.lt_or_ge k l with hk | hk
      · obtain rfl : l = k + 1 := by omega
        exact .inr h
      · exact .inl ⟨l, hk, h⟩

theorem src_fresh : ∀ (e : Bool) (c : Dev nD) (k : Fin 3) (l : Fin 4), l.val ≤ k.val → src e l.val c ≠ src e (k.val + 1) c := by decide
theorem src_all : ∀ (e : Bool) (c d : Dev nD), ∃ l : Fin 4, src e l.val c = d := by decide

theorem merged_disjoint (e : Bool) (c : Dev nD) (k : ℕ) (hk : k < 3) : Disjoint (merged e c k) (keys (src e (k + 1) c)) := by
  rw [Finset.disjoint_left]
  intro a h0 h1
  obtain ⟨l, hl, h⟩ := (mem_merged e c k a).mp h0
  have h' := (mem_keys _ a).mp h1
  exact src_fresh e c ⟨k, hk⟩ ⟨l, by omega⟩ hl (Fin.ext (h.symm.trans h'))

theorem merged_univ (e : Bool) (c : Dev nD) : merged e c 3 = Finset.univ := by
  refine Finset.eq_univ_iff_forall.mpr fun a => (mem_merged e c 3 a).mpr ?_
  obtain ⟨l, hl⟩ := src_all e c ⟨a.val / 512, by show a.val / 512 < 4; omega⟩
  exact ⟨l.val, by omega, by rw [hl]⟩

include R

theorem M_apply (e : Bool) (c : Dev nD) (h : Fin 8) (k : ℕ) (i : Fin 256) :
    M I e c h k (ix2 0 i) = (merged e c k).sup (score A (bat e) h i) := by
  induction k with
  | zero => exact mV_apply R c e h i
  | succ k ih =>
    show max (M I e c h k (ix2 0 i)) (mR I e (k + 1) c h (ix2 0 i)) = _
    rw [ih, mR_apply, mV_apply R, merged, Finset.sup_union]

theorem aOld_apply (e : Bool) (c : Dev nD) (h : Fin 8) (k : ℕ) (i : Fin 256) :
    aOld I e c h k (ix2 0 i) = Ideal.exp ((merged e c k).sup (score A (bat e) h i)
      - max ((merged e c k).sup (score A (bat e) h i)) ((keys (src e (k + 1) c)).sup (score A (bat e) h i))) := by
  show Ideal.exp (M I e c h k (ix2 0 i) - M I e c h (k + 1) (ix2 0 i)) = _
  rw [M_apply R, M_apply R, merged, Finset.sup_union]

theorem aNew_apply (e : Bool) (c : Dev nD) (h : Fin 8) (k : ℕ) (i : Fin 256) :
    aNew I e c h k (ix2 0 i) = Ideal.exp ((keys (src e (k + 1) c)).sup (score A (bat e) h i)
      - max ((merged e c k).sup (score A (bat e) h i)) ((keys (src e (k + 1) c)).sup (score A (bat e) h i))) := by
  show Ideal.exp (mR I e (k + 1) c h (ix2 0 i) - M I e c h (k + 1) (ix2 0 i)) = _
  rw [mR_apply, mV_apply R, M_apply R, merged, Finset.sup_union]

theorem Ls_apply (e : Bool) (c : Dev nD) (h : Fin 8) (i : Fin 256) (k : ℕ) (hk : k ≤ 3) :
    Ls I e c h k (ix2 0 i) = acc (score A (bat e) h i) (fun _ => 1) (merged e c k) := by
  induction k with
  | zero => exact lV_apply R c e h i
  | succ k ih =>
    show Ls I e c h k (ix2 0 i) * aOld I e c h k (ix2 0 i) + lR I e (k + 1) c h (ix2 0 i) * aNew I e c h k (ix2 0 i) = _
    rw [ih (by omega), aOld_apply R, lR_apply, lV_apply R, aNew_apply R, merged, acc_union _ _ (merged_disjoint e c k (by omega))]

theorem Os_apply (e : Bool) (c : Dev nD) (h : Fin 8) (d : Fin 64) (i : Fin 256) (k : ℕ) (hk : k ≤ 3) :
    Os I e c h k (ix2 d i) = acc (score A (bat e) h i) (lane A (bat e) h d) (merged e c k) := by
  induction k with
  | zero => exact oV_apply R c e h d i
  | succ k ih =>
    show Os I e c h k (ix2 d i) * broadcastTo S64x256 (aOld I e c h k) broadcasts_S1x256_S64x256 (ix2 d i)
      + oR I e (k + 1) c h (ix2 d i) * broadcastTo S64x256 (aNew I e c h k) broadcasts_S1x256_S64x256 (ix2 d i) = _
    rw [broadcastTo_apply (aOld I e c h k) _ _ (ix2 0 i) (fun a => by fin_cases a <;> rfl),
      broadcastTo_apply (aNew I e c h k) _ _ (ix2 0 i) (fun a => by fin_cases a <;> rfl),
      ih (by omega), aOld_apply R, oR_apply, oV_apply R, aNew_apply R, merged, acc_union _ _ (merged_disjoint e c k (by omega))]

/-! ## The store -/

omit R

/-- A batch's heads, normalised and stacked. -/
def heads (I : Ins Ideal) (e : Bool) (c : Dev nD) : FVec Ideal S512x256 .f32 :=
  concatenate S512x256 0 (List.ofFn fun h : Fin 8 => ⟨S64x256, divf (Os I e c h 3) (broadcastTo S64x256 (Ls I e c h 3) broadcasts_S1x256_S64x256)⟩)
    concatenates_S64x256_S64x256_S64x256_S64x256_S64x256_S64x256_S64x256_S64x256_S512x256_d0

theorem outV_eq (c : Dev nD) : outV I c = matmul dot_S512x512_S512x768_S512x768_0_0_1_1_n_n none
    (concatenate S512x512 1 [⟨S512x256, heads I true c⟩, ⟨S512x256, heads I false c⟩] concatenates_S512x256_S512x256_S512x512_d1
      : FVec Ideal S512x512 .f32)
    (shapeCast S512x768 (I.wo c) shapeCasts_S512x768_S512x768 : FVec Ideal S512x768 .f32) (constant S512x768 .f32 0x00000000#32) := rfl

include R

theorem heads_apply (e : Bool) (c : Dev nD) (q : Fin 512) (i : Fin 256) :
    heads I e c (ix2 q i) = att A (bat e) i (colHead q) (colLane q) := by
  refine (concatenate_ofFn_apply (t := S512x256) (s₁ := S64x256) 0 _ _ rfl 64 rfl (ix2 q i) (colHead q) rfl (ix2 (colLane q) i) rfl ?_).trans ?_
  · intro a ha
    fin_cases a
    · exact absurd rfl ha
    · rfl
  show Ideal.div (Os I e c (colHead q) 3 (ix2 (colLane q) i))
    (broadcastTo S64x256 (Ls I e c (colHead q) 3) broadcasts_S1x256_S64x256 (ix2 (colLane q) i)) = _
  rw [broadcastTo_apply _ _ _ (ix2 0 i) (fun a => by fin_cases a <;> rfl), Os_apply R _ _ _ _ _ 3 le_rfl, Ls_apply R _ _ _ _ 3 le_rfl,
    merged_univ]
  rfl

/-- **What a device stores is attention of the whole arrays.** -/
theorem outV_apply (c : Dev nD) (b : Fin 2) (i : Fin 256) (n : Fin 768) : outV I c (ix2 (qRow b i) n) = result A b i n := by
  rw [outV_eq, shapeCast_self]
  refine (kernDot_apply dot_S512x512_S512x768_S512x768_0_0_1_1_n_n 512 rfl rfl _ _ _ (fun q => ix2 q (qRow b i)) (fun q => ix2 q n)
      (fun k i hk => funext fun a => Fin.ext (by fin_cases a <;> first | rfl | exact hk))
      (fun k i hk => funext fun a => Fin.ext (by fin_cases a <;> first | rfl | exact hk))).trans ?_
  refine Finset.sum_congr rfl fun q _ => ?_
  rw [R.wo]
  refine congrArg (· * _) ?_
  have hb : b = bat true ∨ b = bat false := by
    rcases (show b.val = 0 ∨ b.val = 1 by omega) with h | h
    · exact .inl (Fin.ext h)
    · exact .inr (Fin.ext h)
  rcases hb with rfl | rfl
  · refine Eq.trans ?_ (heads_apply R true c q i)
    exact concatenate_apply_piece 1 [⟨S512x256, heads I true c⟩, ⟨S512x256, heads I false c⟩] _ (ix2 q (qRow 0 i)) 0 Nat.two_pos
      S512x256 (heads I true c) rfl rfl 0 rfl (ix2 q i)
      (fun a ha => by fin_cases a; · rfl
                      · exact absurd rfl ha) (by show 0 + i.val = 256 * 0 + i.val; omega)
  · refine Eq.trans ?_ (heads_apply R false c q i)
    exact concatenate_apply_piece 1 [⟨S512x256, heads I true c⟩, ⟨S512x256, heads I false c⟩] _ (ix2 q (qRow 1 i)) 1 Nat.one_lt_two
      S512x256 (heads I false c) rfl rfl 256 rfl (ix2 q i)
      (fun a ha => by fin_cases a; · rfl
                      · exact absurd rfl ha) (by show 256 + i.val = 256 * 1 + i.val; omega)

end Cert.KernelIdealProof

end
-- ==== Proof.RefVal.lean ====
/-
The reference's result is the attention of its arguments: its online softmax over two chunks of 1024 keys, read index by
index, carries the maximum, the sum and the weighted values of the keys seen so far.
-/
module

public import proofs.«01_k».proof.Proof.Spec
public import proofs.«01_k».proof.Proof.Gen.ReferenceIdeal.Run

@[expose] public section

noncomputable section

namespace Cert.ReferenceIdealProof

open Cert.ReferenceIdeal Cert.ReferenceIdeal.Gen Cert.Softmax
open Idealize.ShloMosaic Idealize.ShloMosaic.TcCoe Idealize.ShloMosaic.ValueIdx Idealize.SL.Sem
open scoped BigOperators

section Terms
variable {F : FTy → Type} [FloatOps F]

/-! ## The reference's steps, named -/

def q4 (x : FVec F S2x256x768 .f32) (wq : FVec F S768x512 .f32) : FVec F S2x256x8x64 .f32 :=
  shapeCast S2x256x8x64 (Host.dotGeneral dot_S2x256x768_S768x512_S2x256x512_2_0_01_1_n_n none x wq) shapeCasts_S2x256x512_S2x256x8x64
def sc (q : FVec F S2x256x8x64 .f32) (k : FVec F S2x1024x8x64 .f32) : FVec F S2x8x256x1024 .f32 :=
  mulf (Host.dotGeneral dot_S2x256x8x64_S2x1024x8x64_S2x8x256x1024_3_3_1_1_02_02 none q k)
    (broadcastInDim S2x8x256x1024 ![] bcast_S_S2x8x256x1024 (constant S_ .f32 0x3E000000#32))
def mx (s : FVec F S2x8x256x1024 .f32) : FVec F S2x8x256x1 .f32 :=
  broadcastInDim S2x8x256x1 ![0, 1, 2] bcast_S2x8x256_S2x8x256x1_0_1_2
    (Host.reduce FloatOps.maximumf s (constant S_ .f32 0xFF800000#32) reducesTo_S2x8x256x1024_S2x8x256_d3 h_S_)
def pr (s : FVec F S2x8x256x1024 .f32) (m : FVec F S2x8x256x1 .f32) : FVec F S2x8x256x1024 .f32 :=
  Host.exp (subf s (broadcastInDim S2x8x256x1024 ![0, 1, 2, 3] bcast_S2x8x256x1_S2x8x256x1024_0_1_2_3 m))
def sm (p : FVec F S2x8x256x1024 .f32) : FVec F S2x8x256x1 .f32 :=
  broadcastInDim S2x8x256x1 ![0, 1, 2] bcast_S2x8x256_S2x8x256x1_0_1_2
    (Host.reduceAdd p (constant S_ .f32 0x00000000#32) reducesTo_S2x8x256x1024_S2x8x256_d3 h_S_)
def sp (a : FVec F S2x8x256x1 .f32) : FVec F S2x256x8x64 .f32 :=
  broadcastInDim S2x256x8x64 ![0, 1, 2, 3] bcast_S2x256x8x1_S2x256x8x64_0_1_2_3
    (transpose S2x256x8x1 [0, 2, 1, 3] a transposes_S2x8x256x1_S2x256x8x1_0_2_1_3)
def pv (v : FVec F S2x1024x8x64 .f32) (p : FVec F S2x8x256x1024 .f32) : FVec F S2x256x8x64 .f32 :=
  transpose S2x256x8x64 [0, 3, 1, 2] (Host.dotGeneral dot_S2x1024x8x64_S2x8x256x1024_S2x8x64x256_1_3_3_2_02_01 none v p)
    transposes_S2x8x64x256_S2x256x8x64_0_3_1_2

/-- What a chunk makes of the running maximum, sum and weighted values. -/
def nM (m : FVec F S2x8x256x1 .f32) (s : FVec F S2x8x256x1024 .f32) : FVec F S2x8x256x1 .f32 := maximumf m (mx s)
def al (m : FVec F S2x8x256x1 .f32) (s : FVec F S2x8x256x1024 .f32) : FVec F S2x8x256x1 .f32 := Host.exp (subf m (nM m s))
def nL (m l : FVec F S2x8x256x1 .f32) (s : FVec F S2x8x256x1024 .f32) : FVec F S2x8x256x1 .f32 :=
  addf (mulf l (al m s)) (sm (pr s (nM m s)))
def nO (m : FVec F S2x8x256x1 .f32) (o : FVec F S2x256x8x64 .f32) (s : FVec F S2x8x256x1024 .f32) (v : FVec F S2x1024x8x64 .f32) :
    FVec F S2x256x8x64 .f32 := addf (mulf o (sp (al m s))) (pv v (pr s (nM m s)))

def m0 : FVec F S2x8x256x1 .f32 := broadcastInDim S2x8x256x1 ![] bcast_S_S2x8x256x1 (constant S_ .f32 0xFF800000#32)
def l0 : FVec F S2x8x256x1 .f32 := broadcastInDim S2x8x256x1 ![] bcast_S_S2x8x256x1 (constant S_ .f32 0x00000000#32)
def o0 : FVec F S2x256x8x64 .f32 := broadcastInDim S2x256x8x64 ![] bcast_S_S2x256x8x64 (constant S_ .f32 0x00000000#32)

def lo (k : FVec F S2x2048x8x64 .f32) : FVec F S2x1024x8x64 .f32 :=
  extractStridedSlice S2x1024x8x64 ![0, 0, 0, 0] k slices_S2x2048x8x64_S2x1024x8x64_0_0_0_0
def hi (k : FVec F S2x2048x8x64 .f32) : FVec F S2x1024x8x64 .f32 :=
  extractStridedSlice S2x1024x8x64 ![0, 1024, 0, 0] k slices_S2x2048x8x64_S2x1024x8x64_0_1024_0_0

def fin (l : FVec F S2x8x256x1 .f32) (o : FVec F S2x256x8x64 .f32) (wo : FVec F S512x768 .f32) : FVec F S2x256x768 .f32 :=
  Host.dotGeneral dot_S2x256x512_S512x768_S2x256x768_2_0_01_1_n_n none
    (shapeCast S2x256x512 (Host.divf o (sp l)) shapeCasts_S2x256x8x64_S2x256x512) wo

def refOut (x : FVec F S2x256x768 .f32) (wq : FVec F S768x512 .f32) (k v : FVec F S2x2048x8x64 .f32) (wo : FVec F S512x768 .f32) :
    FVec F S2x256x768 .f32 :=
  let s₁ := sc (q4 x wq) (lo k)
  let s₂ := sc (q4 x wq) (hi k)
  fin (nL (nM m0 s₁) (nL m0 l0 s₁) s₂) (nO (nM m0 s₁) (nO m0 o0 s₁ (lo v)) s₂ (hi v)) wo

set_option maxRecDepth 8192 in
theorem res_eq (m : (ℓ : Loc nD τ sig) → Buf (Elt F) ℓ) (c : Dev nD) :
    Value.res_main_v55 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Terms

/-! ## Each step at an index -/

variable (x : FVec Ideal S2x256x768 .f32) (wq : FVec Ideal S768x512 .f32) (k v : FVec Ideal S2x2048x8x64 .f32)
  (wo : FVec Ideal S512x768 .f32)

/-- The arguments as one record. -/
abbrev arrs : Arrays := ⟨x, wq, k, v, wo⟩

theorem q4_apply (b : Fin 2) (i : Fin 256) (h : Fin 8) (d : Fin 64) :
    q4 x wq (ix4 b i h d) = query (arrs x wq k v wo) b i h d := by
  refine (shapeCast_apply _ _ _ (ix3 b i (col h d)) ?_).trans ?_
  · rw [Shape.rowMajor_val_three, Shape.rowMajor_val_four]
    show (b.val * 256 + i.val) * 512 + (64 * h.val + d.val) = ((b.val * 256 + i.val) * 8 + h.val) * 64 + d.val
    omega
  · exact hostDot_apply dot_S2x256x768_S768x512_S2x256x512_2_0_01_1_n_n 768 rfl rfl x wq _ (fun t => ix3 b i t) (fun t => ix2 t (col h d))
      (fun k i hk => funext fun a => Fin.ext (by fin_cases a <;> first | rfl | exact hk))
      (fun k i hk => funext fun a => Fin.ext (by fin_cases a <;> first | rfl | exact hk))

theorem sc_apply (q : FVec Ideal S2x256x8x64 .f32) (kc : FVec Ideal S2x1024x8x64 .f32) (b : Fin 2) (h : Fin 8) (i : Fin 256) (j : Fin 1024) :
    sc q kc (ix4 b h i j) = (∑ d : Fin 64, q (ix4 b i h d) * kc (ix4 b j h d)) * Ideal.ofBits .f32 0x3E000000#32 := by
  refine congrArg₂ (· * ·) ?_ rfl
  exact hostDot_apply dot_S2x256x8x64_S2x1024x8x64_S2x8x256x1024_3_3_1_1_02_02 64 rfl rfl q kc _ (fun d => ix4 b i h d) (fun d => ix4 b j h d)
      (fun k i hk => funext fun a => Fin.ext (by fin_cases a <;> first | rfl | exact hk))
      (fun k i hk => funext fun a => Fin.ext (by fin_cases a <;> first | rfl | exact hk))

/-- The shape fact of a reduction over the last coordinate. -/
theorem red : S2x8x256x1024.Reduces [3] S2x8x256 := by decide

theorem lift_eq (b : Fin 2) (h : Fin 8) (i : Fin 256) (j : Fin 1024) : red.lift (ix3 b h i) j = ix4 b h i j := by
  funext a; apply Fin.ext; fin_cases a <;> rfl

/-- A row of numbers set up as a column, at an index. -/
theorem bc_apply (f : FVec Ideal S2x8x256 .f32) (b : Fin 2) (h : Fin 8) (i : Fin 256) (z : Fin 1) :
    broadcastInDim S2x8x256x1 ![0, 1, 2] bcast_S2x8x256_S2x8x256x1_0_1_2 f (ix4 b h i z) = f (ix3 b h i) :=
  broadcastInDim_apply _ _ _ _ _ fun a => by fin_cases a <;> rfl

theorem mx_apply (s : FVec Ideal S2x8x256x1024 .f32) (b : Fin 2) (h : Fin 8) (i : Fin 256) (z : Fin 1) :
    mx s (ix4 b h i z) = Finset.univ.sup fun j : Fin 1024 => s (ix4 b h i j) := by
  refine (bc_apply _ b h i z).trans ?_
  rw [Host.reduce_eq_fold_single FloatOps.maximumf s _ reducesTo_S2x8x256x1024_S2x8x256_d3 red h_S_]
  have h0 : constant (F := Ideal) S_ .f32 0xFF800000#32 (Shape.Idx.first h_S_) = (⊥ : EReal) := ofBits_neg_inf
  rw [h0]
  refine (fold_max_eq_sup _ _).trans (Finset.sup_congr rfl fun j _ => congrArg s (lift_eq b h i j))

theorem sm_apply (p : FVec Ideal S2x8x256x1024 .f32) (b : Fin 2) (h : Fin 8) (i : Fin 256) (z : Fin 1) :
    sm p (ix4 b h i z) = ∑ j : Fin 1024, p (ix4 b h i j) := by
  refine (bc_apply _ b h i z).trans ?_
  refine (Ideal.hostReduceAdd_single reducesTo_S2x8x256x1024_S2x8x256_d3 red p _ _).trans ?_
  have h0 : constant (F := Ideal) S_ .f32 0x00000000#32 (Shape.Idx.first h_S_) = (0 : EReal) := Ideal.ofBits_zero_f32
  rw [h0, zero_add]
  exact Finset.sum_congr rfl fun j _ => congrArg p (lift_eq b h i j)

theorem pr_apply (s : FVec Ideal S2x8x256x1024 .f32) (m : FVec Ideal S2x8x256x1 .f32) (b : Fin 2) (h : Fin 8) (i : Fin 256) (j : Fin 1024) :
    pr s m (ix4 b h i j) = Ideal.exp (s (ix4 b h i j) - m (ix4 b h i 0)) :=
  congrArg (fun y => Ideal.exp (s (ix4 b h i j) - y)) (broadcastInDim_apply _ _ _ _ _ fun a => by fin_cases a <;> rfl)

theorem sp_apply (a : FVec Ideal S2x8x256x1 .f32) (b : Fin 2) (i : Fin 256) (h : Fin 8) (d : Fin 64) :
    sp a (ix4 b i h d) = a (ix4 b h i 0) := by
  refine (broadcastInDim_apply _ _ _ _ (ix4 b i h 0) fun a => by fin_cases a <;> rfl).trans ?_
  exact transpose_apply _ _ _ _ _ fun a => by fin_cases a <;> rfl

theorem pv_apply (vc : FVec Ideal S2x1024x8x64 .f32) (p : FVec Ideal S2x8x256x1024 .f32) (b : Fin 2) (i : Fin 256) (h : Fin 8) (d : Fin 64) :
    pv vc p (ix4 b i h d) = ∑ j : Fin 1024, vc (ix4 b j h d) * p (ix4 b h i j) := by
  refine (transpose_apply _ _ _ _ (ix4 b h d i) fun a => by fin_cases a <;> rfl).trans ?_
  exact hostDot_apply dot_S2x1024x8x64_S2x8x256x1024_S2x8x64x256_1_3_3_2_02_01 1024 rfl rfl vc p _ (fun j => ix4 b j h d) (fun j => ix4 b h i j)
      (fun k i hk => funext fun a => Fin.ext (by fin_cases a <;> first | rfl | exact hk))
      (fun k i hk => funext fun a => Fin.ext (by fin_cases a <;> first | rfl | exact hk))

/-! ## The chunks -/

/-- The keys of chunk `t`. -/
def chunk (t : Fin 2) : Fin 1024 ↪ Fin 2048 := ⟨fun j => ⟨1024 * t.val + j.val, by omega⟩, fun a b h => Fin.ext (by
  have := congrArg Fin.val h; simp only at this; omega)⟩

theorem chunks_disjoint : Disjoint (Finset.univ.map (chunk 0)) (Finset.univ.map (chunk 1)) := by
  rw [Finset.disjoint_left]
  intro a h0 h1
  obtain ⟨j, -, rfl⟩ := Finset.mem_map.mp h0
  obtain ⟨j', -, h⟩ := Finset.mem_map.mp h1
  have := congrArg Fin.val h
  have h0' : ((chunk 0) j).val = 1024 * 0 + j.val := rfl
  have h1' : ((chunk 1) j').val = 1024 * 1 + j'.val := rfl
  omega

theorem chunks_univ : Finset.univ.map (chunk 0) ∪ Finset.univ.map (chunk 1) = Finset.univ := by
  refine Finset.eq_univ_iff_forall.mpr fun a => Finset.mem_union.mpr ?_
  by_cases h : a.val < 1024
  · exact .inl (Finset.mem_map.mpr ⟨⟨a.val, h⟩, Finset.mem_univ _, Fin.ext (by show 1024 * 0 + a.val = _; omega)⟩)
  · exact .inr (Finset.mem_map.mpr ⟨⟨a.val - 1024, by omega⟩, Finset.mem_univ _, Fin.ext (by show 1024 * 1 + (a.val - 1024) = _; omega)⟩)

/-- The running numbers are those of the set `U` of keys. -/
structure Seen (A : Arrays) (U : Finset (Fin 2048)) (m l : FVec Ideal S2x8x256x1 .f32) (o : FVec Ideal S2x256x8x64 .f32) : Prop where
  m : ∀ b h i, m (ix4 b h i 0) = U.sup (score A b h i)
  l : ∀ b h i, l (ix4 b h i 0) = acc (score A b h i) (fun _ => 1) U
  o : ∀ b h i d, o (ix4 b i h d) = acc (score A b h i) (lane A b h d) U

theorem seen_none (A : Arrays) : Seen A ∅ m0 l0 o0 :=
  ⟨fun _ _ _ => ofBits_neg_inf, fun _ _ _ => Ideal.ofBits_zero_f32.trans (acc_empty _ _).symm,
    fun _ _ _ _ => Ideal.ofBits_zero_f32.trans (acc_empty _ _).symm⟩

/-- A chunk of keys whose scores and values are `s` and `vc` joins the keys seen. -/
theorem seen_chunk {A : Arrays} {U : Finset (Fin 2048)} {m l : FVec Ideal S2x8x256x1 .f32} {o : FVec Ideal S2x256x8x64 .f32}
    (hU : Seen A U m l o) (t : Fin 2) (hd : Disjoint U (Finset.univ.map (chunk t)))
    {s : FVec Ideal S2x8x256x1024 .f32} {vc : FVec Ideal S2x1024x8x64 .f32}
    (hs : ∀ b h i j, s (ix4 b h i j) = score A b h i (chunk t j)) (hv : ∀ b j h d, vc (ix4 b j h d) = lane A b h d (chunk t j)) :
    Seen A (U ∪ Finset.univ.map (chunk t)) (nM m s) (nL m l s) (nO m o s vc) := by
  have hm : ∀ b h i, nM m s (ix4 b h i 0) = (U ∪ Finset.univ.map (chunk t)).sup (score A b h i) := fun b h i => by
    show max (m (ix4 b h i 0)) (mx s (ix4 b h i 0)) = _
    rw [hU.m, mx_apply, Finset.sup_union, sup_map]
    exact congrArg (max _) (Finset.sup_congr rfl fun j _ => hs b h i j)
  have ha : ∀ b h i, al m s (ix4 b h i 0) = Ideal.exp (U.sup (score A b h i)
      - max (U.sup (score A b h i)) ((Finset.univ.map (chunk t)).sup (score A b h i))) := fun b h i => by
    show Ideal.exp (m (ix4 b h i 0) - nM m s (ix4 b h i 0)) = _
    rw [hm, hU.m, Finset.sup_union]
  have hp : ∀ b h i j, pr s (nM m s) (ix4 b h i j) = Ideal.exp (score A b h i (chunk t j)
      - max (U.sup (score A b h i)) ((Finset.univ.map (chunk t)).sup (score A b h i))) := fun b h i j => by
    rw [pr_apply, hs, hm, Finset.sup_union]
  refine ⟨hm, fun b h i => ?_, fun b h i d => ?_⟩
  · show l (ix4 b h i 0) * al m s (ix4 b h i 0) + sm (pr s (nM m s)) (ix4 b h i 0) = _
    rw [acc_union _ _ hd, hU.l, ha, sm_apply, acc_rescale _ _ (le_max_right _ _), Finset.sum_map]
    exact congrArg _ (Finset.sum_congr rfl fun j _ => by rw [hp, one_mul])
  · show o (ix4 b i h d) * sp (al m s) (ix4 b i h d) + pv vc (pr s (nM m s)) (ix4 b i h d) = _
    rw [acc_union _ _ hd, hU.o, sp_apply, ha, pv_apply, acc_rescale _ _ (le_max_right _ _), Finset.sum_map]
    exact congrArg _ (Finset.sum_congr rfl fun j _ => by rw [hp, hv])

theorem lo_apply (b : Fin 2) (j : Fin 1024) (h : Fin 8) (d : Fin 64) : lo k (ix4 b j h d) = k (ix4 b (chunk 0 j) h d) :=
  extractStridedSlice_apply _ _ _ _ _ fun a => by
    fin_cases a
    · show b.val = 0 + b.val; omega
    · show 1024 * 0 + j.val = 0 + j.val; omega
    · show h.val = 0 + h.val; omega
    · show d.val = 0 + d.val; omega
theorem hi_apply (b : Fin 2) (j : Fin 1024) (h : Fin 8) (d : Fin 64) : hi k (ix4 b j h d) = k (ix4 b (chunk 1 j) h d) :=
  extractStridedSlice_apply _ _ _ _ _ fun a => by
    fin_cases a
    · show b.val = 0 + b.val; omega
    · show 1024 * 1 + j.val = 1024 + j.val; omega
    · show h.val = 0 + h.val; omega
    · show d.val = 0 + d.val; omega

theorem fin_apply {A : Arrays} {m l : FVec Ideal S2x8x256x1 .f32} {o : FVec Ideal S2x256x8x64 .f32}
    (hU : Seen A Finset.univ m l o) (b : Fin 2) (i : Fin 256) (n : Fin 768) : fin l o A.wo (ix3 b i n) = result A b i n := by
  refine (hostDot_apply dot_S2x256x512_S512x768_S2x256x768_2_0_01_1_n_n 512 rfl rfl _ A.wo _ (fun c => ix3 b i c) (fun c => ix2 c n)
      (fun k i hk => funext fun a => Fin.ext (by fin_cases a <;> first | rfl | exact hk))
      (fun k i hk => funext fun a => Fin.ext (by fin_cases a <;> first | rfl | exact hk))).trans ?_
  refine Finset.sum_congr rfl fun c _ => congrArg (· * _) ?_
  refine (shapeCast_apply _ _ _ (ix4 b i (colHead c) (colLane c)) ?_).trans ?_
  · rw [Shape.rowMajor_val_three, Shape.rowMajor_val_four]
    show ((b.val * 256 + i.val) * 8 + c.val / 64) * 64 + c.val % 64 = (b.val * 256 + i.val) * 512 + c.val
    omega
  · show Ideal.div (o (ix4 b i (colHead c) (colLane c))) (sp l (ix4 b i (colHead c) (colLane c))) = _
    rw [hU.o, sp_apply, hU.l]; rfl

/-- **The reference computes attention.** -/
theorem refOut_apply (b : Fin 2) (i : Fin 256) (n : Fin 768) :
    refOut x wq k v wo (ix3 b i n) = result (arrs x wq k v wo) b i n := by
  have hs₁ : ∀ b h i j, sc (q4 x wq) (lo k) (ix4 b h i j) = score (arrs x wq k v wo) b h i (chunk 0 j) := fun b h i j => by
    rw [sc_apply]; exact congrArg (· * _) (Finset.sum_congr rfl fun d _ => by rw [q4_apply x wq k v wo, lo_apply])
  have hs₂ : ∀ b h i j, sc (q4 x wq) (hi k) (ix4 b h i j) = score (arrs x wq k v wo) b h i (chunk 1 j) := fun b h i j => by
    rw [sc_apply]; exact congrArg (· * _) (Finset.sum_congr rfl fun d _ => by rw [q4_apply x wq k v wo, hi_apply])
  have h1 := seen_chunk (seen_none (arrs x wq k v wo)) 0 (Finset.disjoint_empty_left _) hs₁ (fun b j h d => lo_apply v b j h d)
  rw [Finset.empty_union] at h1
  have h2 := seen_chunk h1 1 chunks_disjoint hs₂ (fun b j h d => hi_apply v b j h d)
  rw [chunks_univ] at h2
  exact fin_apply h2 b i n

end Cert.ReferenceIdealProof

end
-- ==== Proof.Equal.lean ====
/-
The two programs compute the same: every device of the kernel ends holding the reference's whole result.
-/
module

public import proofs.«01_k».proof.Defs
public import proofs.«01_k».proof.Proof.Run
public import proofs.«01_k».proof.Proof.KerVal
public import proofs.«01_k».proof.Proof.RefVal
public import Idealize.ShloMosaic.Lib.Claim

@[expose] public section

noncomputable section

namespace Cert.KernelIdealProof

open Cert.KernelIdeal Cert.KernelIdeal.Gen Cert.Softmax
open Idealize.ShloMosaic Idealize.ShloMosaic.TcCoe Idealize.ShloMosaic.ValueIdx Idealize.SL.Sem
open Cert.ReferenceIdealProof (refOut refOut_apply)

/-! ## The windows' blocks, each a whole array -/

section Blocks
variable {F : FTy → Type} [FloatOps F] (m : (ℓ : Loc nD τ sig) → Buf (Elt F) ℓ) (c : Dev nD)

theorem in_x : (insOf m).x c = shapeCast S512x768 (m ((c : Thread nD τ).loc main_arg0)) shapeCasts_S2x256x768_S512x768 := by
  have hz : (fun a => (win0_0.index t0_0) a * main_v1.ty.shape.size a) = fun _ => 0 := funext fun a => by fin_cases a <;> decide
  have hr := Memref.read_access_unit_zero (Elt F) main_v1 hz (fun a => by fin_cases a <;> decide) (V m c main_v1)
  refine Eq.trans (b := V m c main_v1) hr ?_
  show StableHlo.after hostOps0 _ _ = _
  after_results_simp
  rfl
theorem in_wq : (insOf m).wq c = m ((c : Thread nD τ).loc main_arg1) := by
  have hz : (fun a => (win0_1.index t0_0) a * main_arg1.ty.shape.size a) = fun _ => 0 := funext fun a => by fin_cases a <;> decide
  have hr := Memref.read_access_unit_zero (Elt F) main_arg1 hz (fun a => by fin_cases a <;> decide) (V m c main_arg1)
  refine Eq.trans (b := V m c main_arg1) hr ?_
  exact V_main_arg1 m c
theorem in_wo : (insOf m).wo c = m ((c : Thread nD τ).loc main_arg4) := by
  have hz : (fun a => (win0_2.index t0_0) a * main_arg4.ty.shape.size a) = fun _ => 0 := funext fun a => by fin_cases a <;> decide
  have hr := Memref.read_access_unit_zero (Elt F) main_arg4 hz (fun a => by fin_cases a <;> decide) (V m c main_arg4)
  refine Eq.trans (b := V m c main_arg4) hr ?_
  exact V_main_arg4 m c
theorem in_k : (insOf m).k c = shapeCast S1024x512 (m ((c : Thread nD τ).loc main_arg2)) shapeCasts_S2x512x8x64_S1024x512 := by
  have hz : (fun a => (win0_3.index t0_0) a * main_v2.ty.shape.size a) = fun _ => 0 := funext fun a => by fin_cases a <;> decide
  have hr := Memref.read_access_unit_zero (Elt F) main_v2 hz (fun a => by fin_cases a <;> decide) (V m c main_v2)
  refine Eq.trans (b := V m c main_v2) hr ?_
  show StableHlo.after hostOps0 _ _ = _
  after_results_simp
  rfl
theorem in_v : (insOf m).v c = shapeCast S1024x512 (m ((c : Thread nD τ).loc main_arg3)) shapeCasts_S2x512x8x64_S1024x512 := by
  have hz : (fun a => (win0_4.index t0_0) a * main_v3.ty.shape.size a) = fun _ => 0 := funext fun a => by fin_cases a <;> decide
  have hr := Memref.read_access_unit_zero (Elt F) main_v3 hz (fun a => by fin_cases a <;> decide) (V m c main_v3)
  refine Eq.trans (b := V m c main_v3) hr ?_
  show StableHlo.after hostOps0 _ _ = _
  after_results_simp
  rfl

theorem V₃_v5 : V₃ m c (Proc.devRef .tc main_v5) = shapeCast S2x256x768 (outV (insOf m) c) shapeCasts_S512x768_S2x256x768 := by
  rw [← arr_out, ← V₂_v4]
  unfold V₃
  after_results_simp
  rfl

end Blocks

/-! ## The result -/

/-- A block of the keys or values, at an index. -/
theorem block_apply (c : Dev nD) (f : (⟨4, ![2, 2048, 8, 64]⟩ : Shape).Idx → EReal) (b : Fin 2) (j : Fin 512) (h : Fin 8) (d : Fin 64) :
    (Layout.block ⟨4, ![2, 512, 8, 64]⟩ ⟨4, ![2, 2048, 8, 64]⟩ 1 4 c f : (⟨4, ![2, 512, 8, 64]⟩ : Shape).Idx → EReal) (ix4 b j h d) = f (ix4 b (shard c j) h d) := by
  refine congrArg f (funext fun a => Fin.ext ?_)
  fin_cases a
  · rfl
  · show c.val * 512 + j.val = 512 * c.val + j.val
    omega
  · rfl
  · rfl

/-- Flattened keys or values, at an index. -/
theorem flat_apply (f : S2x512x8x64.Idx → EReal) (b : Fin 2) (j : Fin 512) (h : Fin 8) (d : Fin 64) :
    shapeCast S1024x512 f shapeCasts_S2x512x8x64_S1024x512 (ix2 (kRow b j) (col h d)) = f (ix4 b j h d) :=
  shapeCast_apply _ _ _ _ (by
    rw [Shape.rowMajor_val_four, Shape.rowMajor_val_two]
    show ((b.val * 512 + j.val) * 8 + h.val) * 64 + d.val = (512 * b.val + j.val) * 512 + (64 * h.val + d.val)
    omega)

theorem rows_apply (f : S2x256x768.Idx → EReal) (b : Fin 2) (i : Fin 256) (t : Fin 768) :
    shapeCast S512x768 f shapeCasts_S2x256x768_S512x768 (ix2 (qRow b i) t) = f (ix3 b i t) :=
  shapeCast_apply _ _ _ _ (by
    rw [Shape.rowMajor_val_three, Shape.rowMajor_val_two]
    show (b.val * 256 + i.val) * 768 + t.val = (256 * b.val + i.val) * 768 + t.val
    omega)

theorem unrows_apply (f : S512x768.Idx → EReal) (b : Fin 2) (i : Fin 256) (n : Fin 768) :
    shapeCast S2x256x768 f shapeCasts_S512x768_S2x256x768 (ix3 b i n) = f (ix2 (qRow b i) n) :=
  shapeCast_apply _ _ _ _ (by
    rw [Shape.rowMajor_val_three, Shape.rowMajor_val_two]
    show (256 * b.val + i.val) * 768 + n.val = (b.val * 256 + i.val) * 768 + n.val
    omega)

section Same
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's argument arrays. -/
def whole : Arrays :=
  Cert.ReferenceIdealProof.arrs (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

variable (h : ∀ c : Dev nD,
    m ((c.tc : Thread nD τ).loc main_arg0) = m' (((0 : Dev Cert.ReferenceIdeal.nD).tc : Thread Cert.ReferenceIdeal.nD Cert.ReferenceIdeal.τ).loc Cert.ReferenceIdeal.main_arg0)
    ∧ m ((c.tc : Thread nD τ).loc main_arg1) = m' (((0 : Dev Cert.ReferenceIdeal.nD).tc : Thread Cert.ReferenceIdeal.nD Cert.ReferenceIdeal.τ).loc Cert.ReferenceIdeal.main_arg1)
    ∧ m ((c.tc : Thread nD τ).loc main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
    ∧ m ((c.tc : Thread nD τ).loc main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
    ∧ m ((c.tc : Thread nD τ).loc main_arg4) = m' (((0 : Dev Cert.ReferenceIdeal.nD).tc : Thread Cert.ReferenceIdeal.nD Cert.ReferenceIdeal.τ).loc Cert.ReferenceIdeal.main_arg4))
include h

theorem reads_whole : Reads (insOf m) (whole m') where
  x c b i t := by
    rw [in_x, (h c).1]
    exact rows_apply _ b i t
  wq c := (in_wq m c).trans (h c).2.1
  wo c := (in_wo m c).trans (h c).2.2.2.2
  k c b j g d := by
    rw [in_k, (h c).2.2.1]
    exact (flat_apply _ b j g d).trans (block_apply c _ b j g d)
  v c b j g d := by
    rw [in_v, (h c).2.2.2.1]
    exact (flat_apply _ b j g d).trans (block_apply c _ b j g d)

/-- **Each device's result is the reference's.** -/
theorem result_eq (c : Dev nD) : V₃ m c (Proc.devRef .tc main_v5) = Cert.ReferenceIdeal.Value.res_main_v55 m' 0 := by
  rw [V₃_v5, Cert.ReferenceIdealProof.res_eq]
  funext i
  have hi : i = ix3 (i 0) (i 1) (i 2) := funext fun a => by fin_cases a <;> rfl
  rw [hi]
  exact (unrows_apply _ (i 0) (i 1) (i 2)).trans ((outV_apply (reads_whole m m' h) c (i 0) (i 1) (i 2)).trans
    (refOut_apply _ _ _ _ _ (i 0) (i 1) (i 2)).symm)

end Same

theorem algebraic : Cert.algebraic_KernelIdeal_ReferenceIdeal (hKernelIdeal := Cert.KernelIdeal.Gen.facts)
    (hReferenceIdeal := Cert.ReferenceIdeal.Gen.facts) := by
  intro m g m' g' _ h
  refine ⟨Cert.ReferenceIdeal.Value.res_main_v55 m' 0, ?_, ?_⟩
  · refine (θ_run Cert.KernelIdeal.defs _ _).mono (fun r hr c => ?_) (run_main (F := Ideal) m g)
    obtain ⟨⟨h0, h1, h2, h3, h4⟩, h5⟩ := hr.1 c
    exact ⟨h5.trans (result_eq m m' h c), h0, h1, h2, h3, h4⟩
  · exact (θ_run Cert.ReferenceIdeal.defs _ _).mono (fun r hr => hr 0) (Cert.ReferenceIdeal.Value.run (F := Ideal) m' g')

end Cert.KernelIdealProof

end
-- ==== Proof.lean ====
/-
  The certificate's proof, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.WordRun
public import proofs.«01_k».proof.Proof.Equal
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := by
  intro m ρ _
  exact (θ_run Cert.Kernel.defs _ _).mono (fun _ h => ⟨fun c => (h.1 c).1, h.2⟩) (Cert.KernelProof.run_main (F := Bits) m ρ)

theorem frame_ideal : Cert.quiescent_KernelIdeal (hKernelIdeal := Cert.KernelIdeal.Gen.facts) := by
  intro m ρ _
  exact (θ_run Cert.KernelIdeal.defs _ _).mono (fun _ h => ⟨fun c => (h.1 c).1, h.2⟩) (Cert.KernelIdealProof.run_main (F := Ideal) m ρ)

theorem frame_reference : Cert.quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelIdealProof.algebraic⟩

end Cert.Proof

end
